-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x384x3 : Shape := ⟨3, ![4096, 384, 3]⟩
abbrev S4096x1152 : Shape := ⟨2, ![4096, 1152]⟩
abbrev S9x1x128 : Shape := ⟨3, ![9, 1, 128]⟩
abbrev S4096x128 : Shape := ⟨2, ![4096, 128]⟩
abbrev S1x1x128 : Shape := ⟨3, ![1, 1, 128]⟩
abbrev S32x1 : Shape := ⟨2, ![32, 1]⟩
abbrev S64x1 : Shape := ⟨2, ![64, 1]⟩
abbrev S64x128 : Shape := ⟨2, ![64, 128]⟩
abbrev S1x128 : Shape := ⟨2, ![1, 128]⟩
abbrev S63x128 : Shape := ⟨2, ![63, 128]⟩
abbrev S2x128 : Shape := ⟨2, ![2, 128]⟩
abbrev S62x128 : Shape := ⟨2, ![62, 128]⟩
abbrev S4x2x8x128 : Shape := ⟨4, ![4, 2, 8, 128]⟩
abbrev S4x1x8x128 : Shape := ⟨4, ![4, 1, 8, 128]⟩
abbrev S4x8x128 : Shape := ⟨3, ![4, 8, 128]⟩
abbrev S32x128 : Shape := ⟨2, ![32, 128]⟩
abbrev S28x128 : Shape := ⟨2, ![28, 128]⟩
abbrev S4x128 : Shape := ⟨2, ![4, 128]⟩
abbrev S30x128 : Shape := ⟨2, ![30, 128]⟩
abbrev S31x128 : Shape := ⟨2, ![31, 128]⟩
abbrev S2x2x16x128 : Shape := ⟨4, ![2, 2, 16, 128]⟩
abbrev S2x1x16x128 : Shape := ⟨4, ![2, 1, 16, 128]⟩
abbrev S2x16x128 : Shape := ⟨3, ![2, 16, 128]⟩
abbrev S2x2x8x128 : Shape := ⟨4, ![2, 2, 8, 128]⟩
abbrev S2x1x8x128 : Shape := ⟨4, ![2, 1, 8, 128]⟩
abbrev S2x8x128 : Shape := ⟨3, ![2, 8, 128]⟩
abbrev S1x2x32x128 : Shape := ⟨4, ![1, 2, 32, 128]⟩
abbrev S1x1x32x128 : Shape := ⟨4, ![1, 1, 32, 128]⟩
abbrev S1x32x128 : Shape := ⟨3, ![1, 32, 128]⟩
abbrev S1x2x16x128 : Shape := ⟨4, ![1, 2, 16, 128]⟩
abbrev S1x1x16x128 : Shape := ⟨4, ![1, 1, 16, 128]⟩
abbrev S1x16x128 : Shape := ⟨3, ![1, 16, 128]⟩
abbrev S60x128 : Shape := ⟨2, ![60, 128]⟩
abbrev S8x2x256x128 : Shape := ⟨4, ![8, 2, 256, 128]⟩
abbrev S8x1x256x128 : Shape := ⟨4, ![8, 1, 256, 128]⟩
abbrev S8x256x128 : Shape := ⟨3, ![8, 256, 128]⟩
abbrev S2048x128 : Shape := ⟨2, ![2048, 128]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S4x2x512x128 : Shape := ⟨4, ![4, 2, 512, 128]⟩
abbrev S4x1x512x128 : Shape := ⟨4, ![4, 1, 512, 128]⟩
abbrev S4x512x128 : Shape := ⟨3, ![4, 512, 128]⟩
abbrev S4x2x256x128 : Shape := ⟨4, ![4, 2, 256, 128]⟩
abbrev S4x1x256x128 : Shape := ⟨4, ![4, 1, 256, 128]⟩
abbrev S4x256x128 : Shape := ⟨3, ![4, 256, 128]⟩
abbrev S2x2x1024x128 : Shape := ⟨4, ![2, 2, 1024, 128]⟩
abbrev S2x1x1024x128 : Shape := ⟨4, ![2, 1, 1024, 128]⟩
abbrev S2x1024x128 : Shape := ⟨3, ![2, 1024, 128]⟩
abbrev S2x2x512x128 : Shape := ⟨4, ![2, 2, 512, 128]⟩
abbrev S2x1x512x128 : Shape := ⟨4, ![2, 1, 512, 128]⟩
abbrev S2x512x128 : Shape := ⟨3, ![2, 512, 128]⟩
abbrev S1x2x2048x128 : Shape := ⟨4, ![1, 2, 2048, 128]⟩
abbrev S1x1x2048x128 : Shape := ⟨4, ![1, 1, 2048, 128]⟩
abbrev S1x2048x128 : Shape := ⟨3, ![1, 2048, 128]⟩
abbrev S1x2x1024x128 : Shape := ⟨4, ![1, 2, 1024, 128]⟩
abbrev S1x1x1024x128 : Shape := ⟨4, ![1, 1, 1024, 128]⟩
abbrev S1x1024x128 : Shape := ⟨3, ![1, 1024, 128]⟩
abbrev S16x2x128x128 : Shape := ⟨4, ![16, 2, 128, 128]⟩
abbrev S16x1x128x128 : Shape := ⟨4, ![16, 1, 128, 128]⟩
abbrev S16x128x128 : Shape := ⟨3, ![16, 128, 128]⟩
abbrev S128 : Shape := ⟨1, ![128]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4096x384x3, .f32⟩
  | .hbm, ⟨1, _⟩ => ⟨S4096x384x3, .f32⟩
  | .hbm, ⟨2, _⟩ => ⟨S4096x1152, .f32⟩
  | .hbm, ⟨3, _⟩ => ⟨S4096x1152, .f32⟩
  | .hbm, ⟨4, _⟩ => ⟨S9x1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1x128, .f32⟩
  | .local _ .vmem, ⟨5, _⟩ => ⟨S1x1x128, .f32⟩
  | .local _ .vmem, ⟨6, _⟩ => ⟨S4096x128, .f32⟩
  | .local _ .vmem, ⟨7, _⟩ => ⟨S4096x128, .f32⟩
  | _, _ => ⟨S4096x384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_12 : BitVec 32 := 0#32
  let c32_i32 : BitVec 32 := 32#32
  let v34 : BitVec 32 := Scalar.addi c0_i32_12 c32_i32
  let c1_i32_13 : BitVec 32 := 1#32
  ⟨c0_i32_12, v34, c1_i32_13⟩
def k0_off1 (k0_t1 : Fin k0_t1_loop.trips) : Fin 2 → Nat :=
  let c0_i32_12 : BitVec 32 := 0#32
  let c1_i32_13 : BitVec 32 := 1#32
  let arg6 : BitVec 32 := Scf.iv c0_i32_12 c1_i32_13 k0_t1
  let c128_i32 : BitVec 32 := 128#32
  let v725 : BitVec 32 := Scalar.muli arg6 c128_i32
  let v728 : Index := Scalar.indexCast v725
  let c0_81 : Index := 0#32
  ![v728.toNat, 0]
def k0_off2 (k0_t1 : Fin k0_t1_loop.trips) : Fin 2 → Nat :=
  let c0_i32_12 : BitVec 32 := 0#32
  let c1_i32_13 : BitVec 32 := 1#32
  let arg6 : BitVec 32 := Scf.iv c0_i32_12 c1_i32_13 k0_t1
  let c128_i32_80 : BitVec 32 := 128#32
  let v726 : BitVec 32 := Scalar.muli arg6 c128_i32_80
  let c64_i32 : BitVec 32 := 64#32
  let v727 : BitVec 32 := Scalar.addi v726 c64_i32
  let v1146 : Index := Scalar.indexCast v727
  let c0_86 : Index := 0#32
  ![v1146.toNat, 0]
@[reducible] def k0_t2_loop : Scf.Loop 32 :=
  let c0_i32_15 : BitVec 32 := 0#32
  let c16_i32 : BitVec 32 := 16#32
  let v35 : BitVec 32 := Scalar.addi c0_i32_15 c16_i32
  let c1_i32_16 : BitVec 32 := 1#32
  ⟨c0_i32_15, v35, c1_i32_16⟩
def k0_off3 (k0_t2 : Fin k0_t2_loop.trips) : Fin 2 → Nat :=
  let c0_i32_15 : BitVec 32 := 0#32
  let c1_i32_16 : BitVec 32 := 1#32
  let arg6 : BitVec 32 := Scf.iv c0_i32_15 c1_i32_16 k0_t2
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c1_i32_80 : BitVec 32 := 1#32
  let c0_i32_83 : BitVec 32 := 0#32
  let v731 : BitVec 1 := Scalar.cmpi .sgt c1_i32_80 c0_i32_83
  let v732 : BitVec 32 := Scalar.extui v731
  let c0_i32_84 : BitVec 32 := 0#32
  let v733 : BitVec 1 := Scalar.cmpi .slt c1_i32_80 c0_i32_84
  let v734 : BitVec 32 := Scalar.extui v733
  let v735 : BitVec 32 := Scalar.subi v732 v734
  let v736 : BitVec 1 := Scalar.cmpi .ne v730 v735
  let v737 : BitVec 32 := Scalar.remsi arg6 c1_i32_80
  let c0_i32_85 : BitVec 32 := 0#32
  let v738 : BitVec 1 := Scalar.cmpi .ne v737 c0_i32_85
  let v739 : BitVec 1 := Scalar.andi v736 v738
  let v725 : BitVec 32 := Scalar.divsi arg6 c1_i32_80
  let c1_i32_86 : BitVec 32 := 1#32
  let v740 : BitVec 32 := Scalar.subi v725 c1_i32_86
  let v741 : BitVec 32 := Scalar.select v739 v740 v725
  let c2_i32_87 : BitVec 32 := 2#32
  let v742 : BitVec 32 := Scalar.muli v741 c2_i32_87
  let c1_i32_88 : BitVec 32 := 1#32
  let c0_i32_89 : BitVec 32 := 0#32
  let v743 : BitVec 1 := Scalar.cmpi .eq c1_i32_88 c0_i32_89
  let c1_i32_90 : BitVec 32 := 1#32
  let v744 : BitVec 32 := Scalar.select v743 c1_i32_90 c1_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let v755 : Index := Scalar.indexCast v754
  let c0_94 : Index := 0#32
  ![v755.toNat, 0]
def k0_off4 (k0_t2 : Fin k0_t2_loop.trips) : Fin 2 → Nat :=
  let c0_i32_15 : BitVec 32 := 0#32
  let c1_i32_16 : BitVec 32 := 1#32
  let arg6 : BitVec 32 := Scf.iv c0_i32_15 c1_i32_16 k0_t2
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c1_i32_80 : BitVec 32 := 1#32
  let c0_i32_83 : BitVec 32 := 0#32
  let v731 : BitVec 1 := Scalar.cmpi .sgt c1_i32_80 c0_i32_83
  let v732 : BitVec 32 := Scalar.extui v731
  let c0_i32_84 : BitVec 32 := 0#32
  let v733 : BitVec 1 := Scalar.cmpi .slt c1_i32_80 c0_i32_84
  let v734 : BitVec 32 := Scalar.extui v733
  let v735 : BitVec 32 := Scalar.subi v732 v734
  let v736 : BitVec 1 := Scalar.cmpi .ne v730 v735
  let v737 : BitVec 32 := Scalar.remsi arg6 c1_i32_80
  let c0_i32_85 : BitVec 32 := 0#32
  let v738 : BitVec 1 := Scalar.cmpi .ne v737 c0_i32_85
  let v739 : BitVec 1 := Scalar.andi v736 v738
  let v725 : BitVec 32 := Scalar.divsi arg6 c1_i32_80
  let c1_i32_86 : BitVec 32 := 1#32
  let v740 : BitVec 32 := Scalar.subi v725 c1_i32_86
  let v741 : BitVec 32 := Scalar.select v739 v740 v725
  let c2_i32_87 : BitVec 32 := 2#32
  let v742 : BitVec 32 := Scalar.muli v741 c2_i32_87
  let c1_i32_88 : BitVec 32 := 1#32
  let c0_i32_89 : BitVec 32 := 0#32
  let v743 : BitVec 1 := Scalar.cmpi .eq c1_i32_88 c0_i32_89
  let c1_i32_90 : BitVec 32 := 1#32
  let v744 : BitVec 32 := Scalar.select v743 c1_i32_90 c1_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let c64_i32 : BitVec 32 := 64#32
  let v757 : BitVec 32 := Scalar.addi v754 c64_i32
  let v758 : Index := Scalar.indexCast v757
  let c0_95 : Index := 0#32
  ![v758.toNat, 0]
def k0_off5 (k0_t2 : Fin k0_t2_loop.trips) : Fin 2 → Nat :=
  let c0_i32_15 : BitVec 32 := 0#32
  let c1_i32_16 : BitVec 32 := 1#32
  let arg6 : BitVec 32 := Scf.iv c0_i32_15 c1_i32_16 k0_t2
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c1_i32_80 : BitVec 32 := 1#32
  let c0_i32_83 : BitVec 32 := 0#32
  let v731 : BitVec 1 := Scalar.cmpi .sgt c1_i32_80 c0_i32_83
  let v732 : BitVec 32 := Scalar.extui v731
  let c0_i32_84 : BitVec 32 := 0#32
  let v733 : BitVec 1 := Scalar.cmpi .slt c1_i32_80 c0_i32_84
  let v734 : BitVec 32 := Scalar.extui v733
  let v735 : BitVec 32 := Scalar.subi v732 v734
  let v736 : BitVec 1 := Scalar.cmpi .ne v730 v735
  let v737 : BitVec 32 := Scalar.remsi arg6 c1_i32_80
  let c0_i32_85 : BitVec 32 := 0#32
  let v738 : BitVec 1 := Scalar.cmpi .ne v737 c0_i32_85
  let v739 : BitVec 1 := Scalar.andi v736 v738
  let v725 : BitVec 32 := Scalar.divsi arg6 c1_i32_80
  let c1_i32_86 : BitVec 32 := 1#32
  let v740 : BitVec 32 := Scalar.subi v725 c1_i32_86
  let v741 : BitVec 32 := Scalar.select v739 v740 v725
  let c2_i32_87 : BitVec 32 := 2#32
  let v742 : BitVec 32 := Scalar.muli v741 c2_i32_87
  let c1_i32_88 : BitVec 32 := 1#32
  let c0_i32_89 : BitVec 32 := 0#32
  let v743 : BitVec 1 := Scalar.cmpi .eq c1_i32_88 c0_i32_89
  let c1_i32_90 : BitVec 32 := 1#32
  let v744 : BitVec 32 := Scalar.select v743 c1_i32_90 c1_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c1_i32_99 : BitVec 32 := 1#32
  let v903 : BitVec 32 := Scalar.addi v753 c1_i32_99
  let c128_i32_100 : BitVec 32 := 128#32
  let v904 : BitVec 32 := Scalar.muli v903 c128_i32_100
  let v905 : Index := Scalar.indexCast v904
  let c0_101 : Index := 0#32
  ![v905.toNat, 0]
def k0_off6 (k0_t2 : Fin k0_t2_loop.trips) : Fin 2 → Nat :=
  let c0_i32_15 : BitVec 32 := 0#32
  let c1_i32_16 : BitVec 32 := 1#32
  let arg6 : BitVec 32 := Scf.iv c0_i32_15 c1_i32_16 k0_t2
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c1_i32_80 : BitVec 32 := 1#32
  let c0_i32_83 : BitVec 32 := 0#32
  let v731 : BitVec 1 := Scalar.cmpi .sgt c1_i32_80 c0_i32_83
  let v732 : BitVec 32 := Scalar.extui v731
  let c0_i32_84 : BitVec 32 := 0#32
  let v733 : BitVec 1 := Scalar.cmpi .slt c1_i32_80 c0_i32_84
  let v734 : BitVec 32 := Scalar.extui v733
  let v735 : BitVec 32 := Scalar.subi v732 v734
  let v736 : BitVec 1 := Scalar.cmpi .ne v730 v735
  let v737 : BitVec 32 := Scalar.remsi arg6 c1_i32_80
  let c0_i32_85 : BitVec 32 := 0#32
  let v738 : BitVec 1 := Scalar.cmpi .ne v737 c0_i32_85
  let v739 : BitVec 1 := Scalar.andi v736 v738
  let v725 : BitVec 32 := Scalar.divsi arg6 c1_i32_80
  let c1_i32_86 : BitVec 32 := 1#32
  let v740 : BitVec 32 := Scalar.subi v725 c1_i32_86
  let v741 : BitVec 32 := Scalar.select v739 v740 v725
  let c2_i32_87 : BitVec 32 := 2#32
  let v742 : BitVec 32 := Scalar.muli v741 c2_i32_87
  let c1_i32_88 : BitVec 32 := 1#32
  let c0_i32_89 : BitVec 32 := 0#32
  let v743 : BitVec 1 := Scalar.cmpi .eq c1_i32_88 c0_i32_89
  let c1_i32_90 : BitVec 32 := 1#32
  let v744 : BitVec 32 := Scalar.select v743 c1_i32_90 c1_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c1_i32_99 : BitVec 32 := 1#32
  let v903 : BitVec 32 := Scalar.addi v753 c1_i32_99
  let c128_i32_100 : BitVec 32 := 128#32
  let v904 : BitVec 32 := Scalar.muli v903 c128_i32_100
  let c64_i32_102 : BitVec 32 := 64#32
  let v907 : BitVec 32 := Scalar.addi v904 c64_i32_102
  let v908 : Index := Scalar.indexCast v907
  let c0_103 : Index := 0#32
  ![v908.toNat, 0]
@[reducible] def k0_t3_loop : Scf.Loop 32 :=
  let c0_i32_25 : BitVec 32 := 0#32
  let c16_i32_26 : BitVec 32 := 16#32
  let v110 : BitVec 32 := Scalar.addi c0_i32_25 c16_i32_26
  let c1_i32_27 : BitVec 32 := 1#32
  ⟨c0_i32_25, v110, c1_i32_27⟩
def k0_off7 (k0_t3 : Fin k0_t3_loop.trips) : Fin 2 → Nat :=
  let c0_i32_25 : BitVec 32 := 0#32
  let c1_i32_27 : BitVec 32 := 1#32
  let arg6 : BitVec 32 := Scf.iv c0_i32_25 c1_i32_27 k0_t3
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c2_i32_80 : BitVec 32 := 2#32
  let c0_i32_83 : BitVec 32 := 0#32
  let v731 : BitVec 1 := Scalar.cmpi .sgt c2_i32_80 c0_i32_83
  let v732 : BitVec 32 := Scalar.extui v731
  let c0_i32_84 : BitVec 32 := 0#32
  let v733 : BitVec 1 := Scalar.cmpi .slt c2_i32_80 c0_i32_84
  let v734 : BitVec 32 := Scalar.extui v733
  let v735 : BitVec 32 := Scalar.subi v732 v734
  let v736 : BitVec 1 := Scalar.cmpi .ne v730 v735
  let v737 : BitVec 32 := Scalar.remsi arg6 c2_i32_80
  let c0_i32_85 : BitVec 32 := 0#32
  let v738 : BitVec 1 := Scalar.cmpi .ne v737 c0_i32_85
  let v739 : BitVec 1 := Scalar.andi v736 v738
  let v725 : BitVec 32 := Scalar.divsi arg6 c2_i32_80
  let c1_i32_86 : BitVec 32 := 1#32
  let v740 : BitVec 32 := Scalar.subi v725 c1_i32_86
  let v741 : BitVec 32 := Scalar.select v739 v740 v725
  let c4_i32_87 : BitVec 32 := 4#32
  let v742 : BitVec 32 := Scalar.muli v741 c4_i32_87
  let c2_i32_88 : BitVec 32 := 2#32
  let c0_i32_89 : BitVec 32 := 0#32
  let v743 : BitVec 1 := Scalar.cmpi .eq c2_i32_88 c0_i32_89
  let c1_i32_90 : BitVec 32 := 1#32
  let v744 : BitVec 32 := Scalar.select v743 c1_i32_90 c2_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let v755 : Index := Scalar.indexCast v754
  let c0_94 : Index := 0#32
  ![v755.toNat, 0]
def k0_off8 (k0_t3 : Fin k0_t3_loop.trips) : Fin 2 → Nat :=
  let c0_i32_25 : BitVec 32 := 0#32
  let c1_i32_27 : BitVec 32 := 1#32
  let arg6 : BitVec 32 := Scf.iv c0_i32_25 c1_i32_27 k0_t3
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c2_i32_80 : BitVec 32 := 2#32
  let c0_i32_83 : BitVec 32 := 0#32
  let v731 : BitVec 1 := Scalar.cmpi .sgt c2_i32_80 c0_i32_83
  let v732 : BitVec 32 := Scalar.extui v731
  let c0_i32_84 : BitVec 32 := 0#32
  let v733 : BitVec 1 := Scalar.cmpi .slt c2_i32_80 c0_i32_84
  let v734 : BitVec 32 := Scalar.extui v733
  let v735 : BitVec 32 := Scalar.subi v732 v734
  let v736 : BitVec 1 := Scalar.cmpi .ne v730 v735
  let v737 : BitVec 32 := Scalar.remsi arg6 c2_i32_80
  let c0_i32_85 : BitVec 32 := 0#32
  let v738 : BitVec 1 := Scalar.cmpi .ne v737 c0_i32_85
  let v739 : BitVec 1 := Scalar.andi v736 v738
  let v725 : BitVec 32 := Scalar.divsi arg6 c2_i32_80
  let c1_i32_86 : BitVec 32 := 1#32
  let v740 : BitVec 32 := Scalar.subi v725 c1_i32_86
  let v741 : BitVec 32 := Scalar.select v739 v740 v725
  let c4_i32_87 : BitVec 32 := 4#32
  let v742 : BitVec 32 := Scalar.muli v741 c4_i32_87
  let c2_i32_88 : BitVec 32 := 2#32
  let c0_i32_89 : BitVec 32 := 0#32
  let v743 : BitVec 1 := Scalar.cmpi .eq c2_i32_88 c0_i32_89
  let c1_i32_90 : BitVec 32 := 1#32
  let v744 : BitVec 32 := Scalar.select v743 c1_i32_90 c2_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let c64_i32 : BitVec 32 := 64#32
  let v757 : BitVec 32 := Scalar.addi v754 c64_i32
  let v758 : Index := Scalar.indexCast v757
  let c0_95 : Index := 0#32
  ![v758.toNat, 0]
def k0_off9 (k0_t3 : Fin k0_t3_loop.trips) : Fin 2 → Nat :=
  let c0_i32_25 : BitVec 32 := 0#32
  let c1_i32_27 : BitVec 32 := 1#32
  let arg6 : BitVec 32 := Scf.iv c0_i32_25 c1_i32_27 k0_t3
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c2_i32_80 : BitVec 32 := 2#32
  let c0_i32_83 : BitVec 32 := 0#32
  let v731 : BitVec 1 := Scalar.cmpi .sgt c2_i32_80 c0_i32_83
  let v732 : BitVec 32 := Scalar.extui v731
  let c0_i32_84 : BitVec 32 := 0#32
  let v733 : BitVec 1 := Scalar.cmpi .slt c2_i32_80 c0_i32_84
  let v734 : BitVec 32 := Scalar.extui v733
  let v735 : BitVec 32 := Scalar.subi v732 v734
  let v736 : BitVec 1 := Scalar.cmpi .ne v730 v735
  let v737 : BitVec 32 := Scalar.remsi arg6 c2_i32_80
  let c0_i32_85 : BitVec 32 := 0#32
  let v738 : BitVec 1 := Scalar.cmpi .ne v737 c0_i32_85
  let v739 : BitVec 1 := Scalar.andi v736 v738
  let v725 : BitVec 32 := Scalar.divsi arg6 c2_i32_80
  let c1_i32_86 : BitVec 32 := 1#32
  let v740 : BitVec 32 := Scalar.subi v725 c1_i32_86
  let v741 : BitVec 32 := Scalar.select v739 v740 v725
  let c4_i32_87 : BitVec 32 := 4#32
  let v742 : BitVec 32 := Scalar.muli v741 c4_i32_87
  let c2_i32_88 : BitVec 32 := 2#32
  let c0_i32_89 : BitVec 32 := 0#32
  let v743 : BitVec 1 := Scalar.cmpi .eq c2_i32_88 c0_i32_89
  let c1_i32_90 : BitVec 32 := 1#32
  let v744 : BitVec 32 := Scalar.select v743 c1_i32_90 c2_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c2_i32_99 : BitVec 32 := 2#32
  let v903 : BitVec 32 := Scalar.addi v753 c2_i32_99
  let c128_i32_100 : BitVec 32 := 128#32
  let v904 : BitVec 32 := Scalar.muli v903 c128_i32_100
  let v905 : Index := Scalar.indexCast v904
  let c0_101 : Index := 0#32
  ![v905.toNat, 0]
def k0_off10 (k0_t3 : Fin k0_t3_loop.trips) : Fin 2 → Nat :=
  let c0_i32_25 : BitVec 32 := 0#32
  let c1_i32_27 : BitVec 32 := 1#32
  let arg6 : BitVec 32 := Scf.iv c0_i32_25 c1_i32_27 k0_t3
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c2_i32_80 : BitVec 32 := 2#32
  let c0_i32_83 : BitVec 32 := 0#32
  let v731 : BitVec 1 := Scalar.cmpi .sgt c2_i32_80 c0_i32_83
  let v732 : BitVec 32 := Scalar.extui v731
  let c0_i32_84 : BitVec 32 := 0#32
  let v733 : BitVec 1 := Scalar.cmpi .slt c2_i32_80 c0_i32_84
  let v734 : BitVec 32 := Scalar.extui v733
  let v735 : BitVec 32 := Scalar.subi v732 v734
  let v736 : BitVec 1 := Scalar.cmpi .ne v730 v735
  let v737 : BitVec 32 := Scalar.remsi arg6 c2_i32_80
  let c0_i32_85 : BitVec 32 := 0#32
  let v738 : BitVec 1 := Scalar.cmpi .ne v737 c0_i32_85
  let v739 : BitVec 1 := Scalar.andi v736 v738
  let v725 : BitVec 32 := Scalar.divsi arg6 c2_i32_80
  let c1_i32_86 : BitVec 32 := 1#32
  let v740 : BitVec 32 := Scalar.subi v725 c1_i32_86
  let v741 : BitVec 32 := Scalar.select v739 v740 v725
  let c4_i32_87 : BitVec 32 := 4#32
  let v742 : BitVec 32 := Scalar.muli v741 c4_i32_87
  let c2_i32_88 : BitVec 32 := 2#32
  let c0_i32_89 : BitVec 32 := 0#32
  let v743 : BitVec 1 := Scalar.cmpi .eq c2_i32_88 c0_i32_89
  let c1_i32_90 : BitVec 32 := 1#32
  let v744 : BitVec 32 := Scalar.select v743 c1_i32_90 c2_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c2_i32_99 : BitVec 32 := 2#32
  let v903 : BitVec 32 := Scalar.addi v753 c2_i32_99
  let c128_i32_100 : BitVec 32 := 128#32
  let v904 : BitVec 32 := Scalar.muli v903 c128_i32_100
  let c64_i32_102 : BitVec 32 := 64#32
  let v907 : BitVec 32 := Scalar.addi v904 c64_i32_102
  let v908 : Index := Scalar.indexCast v907
  let c0_103 : Index := 0#32
  ![v908.toNat, 0]
@[reducible] def k0_t4_loop : Scf.Loop 32 :=
  let c0_i32_37 : BitVec 32 := 0#32
  let c16_i32_38 : BitVec 32 := 16#32
  let v229 : BitVec 32 := Scalar.addi c0_i32_37 c16_i32_38
  let c1_i32_39 : BitVec 32 := 1#32
  ⟨c0_i32_37, v229, c1_i32_39⟩
def k0_off11 (k0_t4 : Fin k0_t4_loop.trips) : Fin 2 → Nat :=
  let c0_i32_37 : BitVec 32 := 0#32
  let c1_i32_39 : BitVec 32 := 1#32
  let arg6 : BitVec 32 := Scf.iv c0_i32_37 c1_i32_39 k0_t4
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c4_i32_80 : BitVec 32 := 4#32
  let c0_i32_83 : BitVec 32 := 0#32
  let v731 : BitVec 1 := Scalar.cmpi .sgt c4_i32_80 c0_i32_83
  let v732 : BitVec 32 := Scalar.extui v731
  let c0_i32_84 : BitVec 32 := 0#32
  let v733 : BitVec 1 := Scalar.cmpi .slt c4_i32_80 c0_i32_84
  let v734 : BitVec 32 := Scalar.extui v733
  let v735 : BitVec 32 := Scalar.subi v732 v734
  let v736 : BitVec 1 := Scalar.cmpi .ne v730 v735
  let v737 : BitVec 32 := Scalar.remsi arg6 c4_i32_80
  let c0_i32_85 : BitVec 32 := 0#32
  let v738 : BitVec 1 := Scalar.cmpi .ne v737 c0_i32_85
  let v739 : BitVec 1 := Scalar.andi v736 v738
  let v725 : BitVec 32 := Scalar.divsi arg6 c4_i32_80
  let c1_i32_86 : BitVec 32 := 1#32
  let v740 : BitVec 32 := Scalar.subi v725 c1_i32_86
  let v741 : BitVec 32 := Scalar.select v739 v740 v725
  let c8_i32 : BitVec 32 := 8#32
  let v742 : BitVec 32 := Scalar.muli v741 c8_i32
  let c4_i32_87 : BitVec 32 := 4#32
  let c0_i32_88 : BitVec 32 := 0#32
  let v743 : BitVec 1 := Scalar.cmpi .eq c4_i32_87 c0_i32_88
  let c1_i32_89 : BitVec 32 := 1#32
  let v744 : BitVec 32 := Scalar.select v743 c1_i32_89 c4_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let v755 : Index := Scalar.indexCast v754
  let c0_93 : Index := 0#32
  ![v755.toNat, 0]
def k0_off12 (k0_t4 : Fin k0_t4_loop.trips) : Fin 2 → Nat :=
  let c0_i32_37 : BitVec 32 := 0#32
  let c1_i32_39 : BitVec 32 := 1#32
  let arg6 : BitVec 32 := Scf.iv c0_i32_37 c1_i32_39 k0_t4
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c4_i32_80 : BitVec 32 := 4#32
  let c0_i32_83 : BitVec 32 := 0#32
  let v731 : BitVec 1 := Scalar.cmpi .sgt c4_i32_80 c0_i32_83
  let v732 : BitVec 32 := Scalar.extui v731
  let c0_i32_84 : BitVec 32 := 0#32
  let v733 : BitVec 1 := Scalar.cmpi .slt c4_i32_80 c0_i32_84
  let v734 : BitVec 32 := Scalar.extui v733
  let v735 : BitVec 32 := Scalar.subi v732 v734
  let v736 : BitVec 1 := Scalar.cmpi .ne v730 v735
  let v737 : BitVec 32 := Scalar.remsi arg6 c4_i32_80
  let c0_i32_85 : BitVec 32 := 0#32
  let v738 : BitVec 1 := Scalar.cmpi .ne v737 c0_i32_85
  let v739 : BitVec 1 := Scalar.andi v736 v738
  let v725 : BitVec 32 := Scalar.divsi arg6 c4_i32_80
  let c1_i32_86 : BitVec 32 := 1#32
  let v740 : BitVec 32 := Scalar.subi v725 c1_i32_86
  let v741 : BitVec 32 := Scalar.select v739 v740 v725
  let c8_i32 : BitVec 32 := 8#32
  let v742 : BitVec 32 := Scalar.muli v741 c8_i32
  let c4_i32_87 : BitVec 32 := 4#32
  let c0_i32_88 : BitVec 32 := 0#32
  let v743 : BitVec 1 := Scalar.cmpi .eq c4_i32_87 c0_i32_88
  let c1_i32_89 : BitVec 32 := 1#32
  let v744 : BitVec 32 := Scalar.select v743 c1_i32_89 c4_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let c64_i32 : BitVec 32 := 64#32
  let v757 : BitVec 32 := Scalar.addi v754 c64_i32
  let v758 : Index := Scalar.indexCast v757
  let c0_94 : Index := 0#32
  ![v758.toNat, 0]
def k0_off13 (k0_t4 : Fin k0_t4_loop.trips) : Fin 2 → Nat :=
  let c0_i32_37 : BitVec 32 := 0#32
  let c1_i32_39 : BitVec 32 := 1#32
  let arg6 : BitVec 32 := Scf.iv c0_i32_37 c1_i32_39 k0_t4
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c4_i32_80 : BitVec 32 := 4#32
  let c0_i32_83 : BitVec 32 := 0#32
  let v731 : BitVec 1 := Scalar.cmpi .sgt c4_i32_80 c0_i32_83
  let v732 : BitVec 32 := Scalar.extui v731
  let c0_i32_84 : BitVec 32 := 0#32
  let v733 : BitVec 1 := Scalar.cmpi .slt c4_i32_80 c0_i32_84
  let v734 : BitVec 32 := Scalar.extui v733
  let v735 : BitVec 32 := Scalar.subi v732 v734
  let v736 : BitVec 1 := Scalar.cmpi .ne v730 v735
  let v737 : BitVec 32 := Scalar.remsi arg6 c4_i32_80
  let c0_i32_85 : BitVec 32 := 0#32
  let v738 : BitVec 1 := Scalar.cmpi .ne v737 c0_i32_85
  let v739 : BitVec 1 := Scalar.andi v736 v738
  let v725 : BitVec 32 := Scalar.divsi arg6 c4_i32_80
  let c1_i32_86 : BitVec 32 := 1#32
  let v740 : BitVec 32 := Scalar.subi v725 c1_i32_86
  let v741 : BitVec 32 := Scalar.select v739 v740 v725
  let c8_i32 : BitVec 32 := 8#32
  let v742 : BitVec 32 := Scalar.muli v741 c8_i32
  let c4_i32_87 : BitVec 32 := 4#32
  let c0_i32_88 : BitVec 32 := 0#32
  let v743 : BitVec 1 := Scalar.cmpi .eq c4_i32_87 c0_i32_88
  let c1_i32_89 : BitVec 32 := 1#32
  let v744 : BitVec 32 := Scalar.select v743 c1_i32_89 c4_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c4_i32_98 : BitVec 32 := 4#32
  let v903 : BitVec 32 := Scalar.addi v753 c4_i32_98
  let c128_i32_99 : BitVec 32 := 128#32
  let v904 : BitVec 32 := Scalar.muli v903 c128_i32_99
  let v905 : Index := Scalar.indexCast v904
  let c0_100 : Index := 0#32
  ![v905.toNat, 0]
def k0_off14 (k0_t4 : Fin k0_t4_loop.trips) : Fin 2 → Nat :=
  let c0_i32_37 : BitVec 32 := 0#32
  let c1_i32_39 : BitVec 32 := 1#32
  let arg6 : BitVec 32 := Scf.iv c0_i32_37 c1_i32_39 k0_t4
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c4_i32_80 : BitVec 32 := 4#32
  let c0_i32_83 : BitVec 32 := 0#32
  let v731 : BitVec 1 := Scalar.cmpi .sgt c4_i32_80 c0_i32_83
  let v732 : BitVec 32 := Scalar.extui v731
  let c0_i32_84 : BitVec 32 := 0#32
  let v733 : BitVec 1 := Scalar.cmpi .slt c4_i32_80 c0_i32_84
  let v734 : BitVec 32 := Scalar.extui v733
  let v735 : BitVec 32 := Scalar.subi v732 v734
  let v736 : BitVec 1 := Scalar.cmpi .ne v730 v735
  let v737 : BitVec 32 := Scalar.remsi arg6 c4_i32_80
  let c0_i32_85 : BitVec 32 := 0#32
  let v738 : BitVec 1 := Scalar.cmpi .ne v737 c0_i32_85
  let v739 : BitVec 1 := Scalar.andi v736 v738
  let v725 : BitVec 32 := Scalar.divsi arg6 c4_i32_80
  let c1_i32_86 : BitVec 32 := 1#32
  let v740 : BitVec 32 := Scalar.subi v725 c1_i32_86
  let v741 : BitVec 32 := Scalar.select v739 v740 v725
  let c8_i32 : BitVec 32 := 8#32
  let v742 : BitVec 32 := Scalar.muli v741 c8_i32
  let c4_i32_87 : BitVec 32 := 4#32
  let c0_i32_88 : BitVec 32 := 0#32
  let v743 : BitVec 1 := Scalar.cmpi .eq c4_i32_87 c0_i32_88
  let c1_i32_89 : BitVec 32 := 1#32
  let v744 : BitVec 32 := Scalar.select v743 c1_i32_89 c4_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c4_i32_98 : BitVec 32 := 4#32
  let v903 : BitVec 32 := Scalar.addi v753 c4_i32_98
  let c128_i32_99 : BitVec 32 := 128#32
  let v904 : BitVec 32 := Scalar.muli v903 c128_i32_99
  let c64_i32_101 : BitVec 32 := 64#32
  let v907 : BitVec 32 := Scalar.addi v904 c64_i32_101
  let v908 : Index := Scalar.indexCast v907
  let c0_102 : Index := 0#32
  ![v908.toNat, 0]
@[reducible] def k0_t5_loop : Scf.Loop 32 :=
  let c0_i32_49 : BitVec 32 := 0#32
  let c16_i32_50 : BitVec 32 := 16#32
  let v392 : BitVec 32 := Scalar.addi c0_i32_49 c16_i32_50
  let c1_i32_51 : BitVec 32 := 1#32
  ⟨c0_i32_49, v392, c1_i32_51⟩
def k0_off15 (k0_t5 : Fin k0_t5_loop.trips) : Fin 2 → Nat :=
  let c0_i32_49 : BitVec 32 := 0#32
  let c1_i32_51 : BitVec 32 := 1#32
  let arg6 : BitVec 32 := Scf.iv c0_i32_49 c1_i32_51 k0_t5
  let c0_i32_80 : BitVec 32 := 0#32
  let v726 : BitVec 1 := Scalar.cmpi .sgt arg6 c0_i32_80
  let v727 : BitVec 32 := Scalar.extui v726
  let c0_i32_81 : BitVec 32 := 0#32
  let v728 : BitVec 1 := Scalar.cmpi .slt arg6 c0_i32_81
  let v729 : BitVec 32 := Scalar.extui v728
  let v730 : BitVec 32 := Scalar.subi v727 v729
  let c8_i32 : BitVec 32 := 8#32
  let c0_i32_82 : BitVec 32 := 0#32
  let v731 : BitVec 1 := Scalar.cmpi .sgt c8_i32 c0_i32_82
  let v732 : BitVec 32 := Scalar.extui v731
  let c0_i32_83 : BitVec 32 := 0#32
  let v733 : BitVec 1 := Scalar.cmpi .slt c8_i32 c0_i32_83
  let v734 : BitVec 32 := Scalar.extui v733
  let v735 : BitVec 32 := Scalar.subi v732 v734
  let v736 : BitVec 1 := Scalar.cmpi .ne v730 v735
  let v737 : BitVec 32 := Scalar.remsi arg6 c8_i32
  let c0_i32_84 : BitVec 32 := 0#32
  let v738 : BitVec 1 := Scalar.cmpi .ne v737 c0_i32_84
  let v739 : BitVec 1 := Scalar.andi v736 v738
  let v725 : BitVec 32 := Scalar.divsi arg6 c8_i32
  let c1_i32_85 : BitVec 32 := 1#32
  let v740 : BitVec 32 := Scalar.subi v725 c1_i32_85
  let v741 : BitVec 32 := Scalar.select v739 v740 v725
  let c16_i32_86 : BitVec 32 := 16#32
  let v742 : BitVec 32 := Scalar.muli v741 c16_i32_86
  let c8_i32_87 : BitVec 32 := 8#32
  let c0_i32_88 : BitVec 32 := 0#32
  let v743 : BitVec 1 := Scalar.cmpi .eq c8_i32_87 c0_i32_88
  let c1_i32_89 : BitVec 32 := 1#32
  let v744 : BitVec 32 := Scalar.select v743 c1_i32_89 c8_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let v755 : Index := Scalar.indexCast v754
  let c0_93 : Index := 0#32
  ![v755.toNat, 0]
def k0_off16 (k0_t5 : Fin k0_t5_loop.trips) : Fin 2 → Nat :=
  let c0_i32_49 : BitVec 32 := 0#32
  let c1_i32_51 : BitVec 32 := 1#32
  let arg6 : BitVec 32 := Scf.iv c0_i32_49 c1_i32_51 k0_t5
  let c0_i32_80 : BitVec 32 := 0#32
  let v726 : BitVec 1 := Scalar.cmpi .sgt arg6 c0_i32_80
  let v727 : BitVec 32 := Scalar.extui v726
  let c0_i32_81 : BitVec 32 := 0#32
  let v728 : BitVec 1 := Scalar.cmpi .slt arg6 c0_i32_81
  let v729 : BitVec 32 := Scalar.extui v728
  let v730 : BitVec 32 := Scalar.subi v727 v729
  let c8_i32 : BitVec 32 := 8#32
  let c0_i32_82 : BitVec 32 := 0#32
  let v731 : BitVec 1 := Scalar.cmpi .sgt c8_i32 c0_i32_82
  let v732 : BitVec 32 := Scalar.extui v731
  let c0_i32_83 : BitVec 32 := 0#32
  let v733 : BitVec 1 := Scalar.cmpi .slt c8_i32 c0_i32_83
  let v734 : BitVec 32 := Scalar.extui v733
  let v735 : BitVec 32 := Scalar.subi v732 v734
  let v736 : BitVec 1 := Scalar.cmpi .ne v730 v735
  let v737 : BitVec 32 := Scalar.remsi arg6 c8_i32
  let c0_i32_84 : BitVec 32 := 0#32
  let v738 : BitVec 1 := Scalar.cmpi .ne v737 c0_i32_84
  let v739 : BitVec 1 := Scalar.andi v736 v738
  let v725 : BitVec 32 := Scalar.divsi arg6 c8_i32
  let c1_i32_85 : BitVec 32 := 1#32
  let v740 : BitVec 32 := Scalar.subi v725 c1_i32_85
  let v741 : BitVec 32 := Scalar.select v739 v740 v725
  let c16_i32_86 : BitVec 32 := 16#32
  let v742 : BitVec 32 := Scalar.muli v741 c16_i32_86
  let c8_i32_87 : BitVec 32 := 8#32
  let c0_i32_88 : BitVec 32 := 0#32
  let v743 : BitVec 1 := Scalar.cmpi .eq c8_i32_87 c0_i32_88
  let c1_i32_89 : BitVec 32 := 1#32
  let v744 : BitVec 32 := Scalar.select v743 c1_i32_89 c8_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let c64_i32 : BitVec 32 := 64#32
  let v757 : BitVec 32 := Scalar.addi v754 c64_i32
  let v758 : Index := Scalar.indexCast v757
  let c0_94 : Index := 0#32
  ![v758.toNat, 0]
def k0_off17 (k0_t5 : Fin k0_t5_loop.trips) : Fin 2 → Nat :=
  let c0_i32_49 : BitVec 32 := 0#32
  let c1_i32_51 : BitVec 32 := 1#32
  let arg6 : BitVec 32 := Scf.iv c0_i32_49 c1_i32_51 k0_t5
  let c0_i32_80 : BitVec 32 := 0#32
  let v726 : BitVec 1 := Scalar.cmpi .sgt arg6 c0_i32_80
  let v727 : BitVec 32 := Scalar.extui v726
  let c0_i32_81 : BitVec 32 := 0#32
  let v728 : BitVec 1 := Scalar.cmpi .slt arg6 c0_i32_81
  let v729 : BitVec 32 := Scalar.extui v728
  let v730 : BitVec 32 := Scalar.subi v727 v729
  let c8_i32 : BitVec 32 := 8#32
  let c0_i32_82 : BitVec 32 := 0#32
  let v731 : BitVec 1 := Scalar.cmpi .sgt c8_i32 c0_i32_82
  let v732 : BitVec 32 := Scalar.extui v731
  let c0_i32_83 : BitVec 32 := 0#32
  let v733 : BitVec 1 := Scalar.cmpi .slt c8_i32 c0_i32_83
  let v734 : BitVec 32 := Scalar.extui v733
  let v735 : BitVec 32 := Scalar.subi v732 v734
  let v736 : BitVec 1 := Scalar.cmpi .ne v730 v735
  let v737 : BitVec 32 := Scalar.remsi arg6 c8_i32
  let c0_i32_84 : BitVec 32 := 0#32
  let v738 : BitVec 1 := Scalar.cmpi .ne v737 c0_i32_84
  let v739 : BitVec 1 := Scalar.andi v736 v738
  let v725 : BitVec 32 := Scalar.divsi arg6 c8_i32
  let c1_i32_85 : BitVec 32 := 1#32
  let v740 : BitVec 32 := Scalar.subi v725 c1_i32_85
  let v741 : BitVec 32 := Scalar.select v739 v740 v725
  let c16_i32_86 : BitVec 32 := 16#32
  let v742 : BitVec 32 := Scalar.muli v741 c16_i32_86
  let c8_i32_87 : BitVec 32 := 8#32
  let c0_i32_88 : BitVec 32 := 0#32
  let v743 : BitVec 1 := Scalar.cmpi .eq c8_i32_87 c0_i32_88
  let c1_i32_89 : BitVec 32 := 1#32
  let v744 : BitVec 32 := Scalar.select v743 c1_i32_89 c8_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c8_i32_98 : BitVec 32 := 8#32
  let v903 : BitVec 32 := Scalar.addi v753 c8_i32_98
  let c128_i32_99 : BitVec 32 := 128#32
  let v904 : BitVec 32 := Scalar.muli v903 c128_i32_99
  let v905 : Index := Scalar.indexCast v904
  let c0_100 : Index := 0#32
  ![v905.toNat, 0]
def k0_off18 (k0_t5 : Fin k0_t5_loop.trips) : Fin 2 → Nat :=
  let c0_i32_49 : BitVec 32 := 0#32
  let c1_i32_51 : BitVec 32 := 1#32
  let arg6 : BitVec 32 := Scf.iv c0_i32_49 c1_i32_51 k0_t5
  let c0_i32_80 : BitVec 32 := 0#32
  let v726 : BitVec 1 := Scalar.cmpi .sgt arg6 c0_i32_80
  let v727 : BitVec 32 := Scalar.extui v726
  let c0_i32_81 : BitVec 32 := 0#32
  let v728 : BitVec 1 := Scalar.cmpi .slt arg6 c0_i32_81
  let v729 : BitVec 32 := Scalar.extui v728
  let v730 : BitVec 32 := Scalar.subi v727 v729
  let c8_i32 : BitVec 32 := 8#32
  let c0_i32_82 : BitVec 32 := 0#32
  let v731 : BitVec 1 := Scalar.cmpi .sgt c8_i32 c0_i32_82
  let v732 : BitVec 32 := Scalar.extui v731
  let c0_i32_83 : BitVec 32 := 0#32
  let v733 : BitVec 1 := Scalar.cmpi .slt c8_i32 c0_i32_83
  let v734 : BitVec 32 := Scalar.extui v733
  let v735 : BitVec 32 := Scalar.subi v732 v734
  let v736 : BitVec 1 := Scalar.cmpi .ne v730 v735
  let v737 : BitVec 32 := Scalar.remsi arg6 c8_i32
  let c0_i32_84 : BitVec 32 := 0#32
  let v738 : BitVec 1 := Scalar.cmpi .ne v737 c0_i32_84
  let v739 : BitVec 1 := Scalar.andi v736 v738
  let v725 : BitVec 32 := Scalar.divsi arg6 c8_i32
  let c1_i32_85 : BitVec 32 := 1#32
  let v740 : BitVec 32 := Scalar.subi v725 c1_i32_85
  let v741 : BitVec 32 := Scalar.select v739 v740 v725
  let c16_i32_86 : BitVec 32 := 16#32
  let v742 : BitVec 32 := Scalar.muli v741 c16_i32_86
  let c8_i32_87 : BitVec 32 := 8#32
  let c0_i32_88 : BitVec 32 := 0#32
  let v743 : BitVec 1 := Scalar.cmpi .eq c8_i32_87 c0_i32_88
  let c1_i32_89 : BitVec 32 := 1#32
  let v744 : BitVec 32 := Scalar.select v743 c1_i32_89 c8_i32_87
  let v745 : BitVec 32 := Scalar.remsi arg6 v744
  let c0_i32_91 : BitVec 32 := 0#32
  let v747 : BitVec 1 := Scalar.cmpi .slt v745 c0_i32_91
  let c0_i32_92 : BitVec 32 := 0#32
  let v748 : BitVec 1 := Scalar.cmpi .slt v744 c0_i32_92
  let v749 : BitVec 1 := Scalar.xori v747 v748
  let c0_i32_90 : BitVec 32 := 0#32
  let v746 : BitVec 1 := Scalar.cmpi .ne v745 c0_i32_90
  let v750 : BitVec 1 := Scalar.andi v749 v746
  let v751 : BitVec 32 := Scalar.addi v745 v744
  let v752 : BitVec 32 := Scalar.select v750 v751 v745
  let v753 : BitVec 32 := Scalar.addi v742 v752
  let c8_i32_98 : BitVec 32 := 8#32
  let v903 : BitVec 32 := Scalar.addi v753 c8_i32_98
  let c128_i32_99 : BitVec 32 := 128#32
  let v904 : BitVec 32 := Scalar.muli v903 c128_i32_99
  let c64_i32_101 : BitVec 32 := 64#32
  let v907 : BitVec 32 := Scalar.addi v904 c64_i32_101
  let v908 : Index := Scalar.indexCast v907
  let c0_102 : Index := 0#32
  ![v908.toNat, 0]
@[reducible] def k0_t6_loop : Scf.Loop 32 :=
  let c0_i32_61 : BitVec 32 := 0#32
  let c16_i32_62 : BitVec 32 := 16#32
  let v599 : BitVec 32 := Scalar.addi c0_i32_61 c16_i32_62
  let c1_i32_63 : BitVec 32 := 1#32
  ⟨c0_i32_61, v599, c1_i32_63⟩
def k0_off19 (k0_t6 : Fin k0_t6_loop.trips) : Fin 2 → Nat :=
  let c0_i32_61 : BitVec 32 := 0#32
  let c1_i32_63 : BitVec 32 := 1#32
  let arg6 : BitVec 32 := Scf.iv c0_i32_61 c1_i32_63 k0_t6
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c16_i32_80 : BitVec 32 := 16#32
  let c0_i32_83 : BitVec 32 := 0#32
  let v731 : BitVec 1 := Scalar.cmpi .sgt c16_i32_80 c0_i32_83
  let v732 : BitVec 32 := Scalar.extui v731
  let c0_i32_84 : BitVec 32 := 0#32
  let v733 : BitVec 1 := Scalar.cmpi .slt c16_i32_80 c0_i32_84
  let v734 : BitVec 32 := Scalar.extui v733
  let v735 : BitVec 32 := Scalar.subi v732 v734
  let v736 : BitVec 1 := Scalar.cmpi .ne v730 v735
  let v737 : BitVec 32 := Scalar.remsi arg6 c16_i32_80
  let c0_i32_85 : BitVec 32 := 0#32
  let v738 : BitVec 1 := Scalar.cmpi .ne v737 c0_i32_85
  let v739 : BitVec 1 := Scalar.andi v736 v738
  let v725 : BitVec 32 := Scalar.divsi arg6 c16_i32_80
  let c1_i32_86 : BitVec 32 := 1#32
  let v740 : BitVec 32 := Scalar.subi v725 c1_i32_86
  let v741 : BitVec 32 := Scalar.select v739 v740 v725
  let c32_i32_87 : BitVec 32 := 32#32
  let v742 : BitVec 32 := Scalar.muli v741 c32_i32_87
  let c16_i32_88 : BitVec 32 := 16#32
  let c0_i32_89 : BitVec 32 := 0#32
  let v743 : BitVec 1 := Scalar.cmpi .eq c16_i32_88 c0_i32_89
  let c1_i32_90 : BitVec 32 := 1#32
  let v744 : BitVec 32 := Scalar.select v743 c1_i32_90 c16_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let v755 : Index := Scalar.indexCast v754
  let c0_94 : Index := 0#32
  ![v755.toNat, 0]
def k0_off20 (k0_t6 : Fin k0_t6_loop.trips) : Fin 2 → Nat :=
  let c0_i32_61 : BitVec 32 := 0#32
  let c1_i32_63 : BitVec 32 := 1#32
  let arg6 : BitVec 32 := Scf.iv c0_i32_61 c1_i32_63 k0_t6
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c16_i32_80 : BitVec 32 := 16#32
  let c0_i32_83 : BitVec 32 := 0#32
  let v731 : BitVec 1 := Scalar.cmpi .sgt c16_i32_80 c0_i32_83
  let v732 : BitVec 32 := Scalar.extui v731
  let c0_i32_84 : BitVec 32 := 0#32
  let v733 : BitVec 1 := Scalar.cmpi .slt c16_i32_80 c0_i32_84
  let v734 : BitVec 32 := Scalar.extui v733
  let v735 : BitVec 32 := Scalar.subi v732 v734
  let v736 : BitVec 1 := Scalar.cmpi .ne v730 v735
  let v737 : BitVec 32 := Scalar.remsi arg6 c16_i32_80
  let c0_i32_85 : BitVec 32 := 0#32
  let v738 : BitVec 1 := Scalar.cmpi .ne v737 c0_i32_85
  let v739 : BitVec 1 := Scalar.andi v736 v738
  let v725 : BitVec 32 := Scalar.divsi arg6 c16_i32_80
  let c1_i32_86 : BitVec 32 := 1#32
  let v740 : BitVec 32 := Scalar.subi v725 c1_i32_86
  let v741 : BitVec 32 := Scalar.select v739 v740 v725
  let c32_i32_87 : BitVec 32 := 32#32
  let v742 : BitVec 32 := Scalar.muli v741 c32_i32_87
  let c16_i32_88 : BitVec 32 := 16#32
  let c0_i32_89 : BitVec 32 := 0#32
  let v743 : BitVec 1 := Scalar.cmpi .eq c16_i32_88 c0_i32_89
  let c1_i32_90 : BitVec 32 := 1#32
  let v744 : BitVec 32 := Scalar.select v743 c1_i32_90 c16_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c128_i32 : BitVec 32 := 128#32
  let v754 : BitVec 32 := Scalar.muli v753 c128_i32
  let c64_i32 : BitVec 32 := 64#32
  let v757 : BitVec 32 := Scalar.addi v754 c64_i32
  let v758 : Index := Scalar.indexCast v757
  let c0_95 : Index := 0#32
  ![v758.toNat, 0]
def k0_off21 (k0_t6 : Fin k0_t6_loop.trips) : Fin 2 → Nat :=
  let c0_i32_61 : BitVec 32 := 0#32
  let c1_i32_63 : BitVec 32 := 1#32
  let arg6 : BitVec 32 := Scf.iv c0_i32_61 c1_i32_63 k0_t6
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c16_i32_80 : BitVec 32 := 16#32
  let c0_i32_83 : BitVec 32 := 0#32
  let v731 : BitVec 1 := Scalar.cmpi .sgt c16_i32_80 c0_i32_83
  let v732 : BitVec 32 := Scalar.extui v731
  let c0_i32_84 : BitVec 32 := 0#32
  let v733 : BitVec 1 := Scalar.cmpi .slt c16_i32_80 c0_i32_84
  let v734 : BitVec 32 := Scalar.extui v733
  let v735 : BitVec 32 := Scalar.subi v732 v734
  let v736 : BitVec 1 := Scalar.cmpi .ne v730 v735
  let v737 : BitVec 32 := Scalar.remsi arg6 c16_i32_80
  let c0_i32_85 : BitVec 32 := 0#32
  let v738 : BitVec 1 := Scalar.cmpi .ne v737 c0_i32_85
  let v739 : BitVec 1 := Scalar.andi v736 v738
  let v725 : BitVec 32 := Scalar.divsi arg6 c16_i32_80
  let c1_i32_86 : BitVec 32 := 1#32
  let v740 : BitVec 32 := Scalar.subi v725 c1_i32_86
  let v741 : BitVec 32 := Scalar.select v739 v740 v725
  let c32_i32_87 : BitVec 32 := 32#32
  let v742 : BitVec 32 := Scalar.muli v741 c32_i32_87
  let c16_i32_88 : BitVec 32 := 16#32
  let c0_i32_89 : BitVec 32 := 0#32
  let v743 : BitVec 1 := Scalar.cmpi .eq c16_i32_88 c0_i32_89
  let c1_i32_90 : BitVec 32 := 1#32
  let v744 : BitVec 32 := Scalar.select v743 c1_i32_90 c16_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c16_i32_99 : BitVec 32 := 16#32
  let v903 : BitVec 32 := Scalar.addi v753 c16_i32_99
  let c128_i32_100 : BitVec 32 := 128#32
  let v904 : BitVec 32 := Scalar.muli v903 c128_i32_100
  let v905 : Index := Scalar.indexCast v904
  let c0_101 : Index := 0#32
  ![v905.toNat, 0]
def k0_off22 (k0_t6 : Fin k0_t6_loop.trips) : Fin 2 → Nat :=
  let c0_i32_61 : BitVec 32 := 0#32
  let c1_i32_63 : BitVec 32 := 1#32
  let arg6 : BitVec 32 := Scf.iv c0_i32_61 c1_i32_63 k0_t6
  let c0_i32_81 : BitVec 32 := 0#32
  let v726 : BitVec 1 := Scalar.cmpi .sgt arg6 c0_i32_81
  let v727 : BitVec 32 := Scalar.extui v726
  let c0_i32_82 : BitVec 32 := 0#32
  let v728 : BitVec 1 := Scalar.cmpi .slt arg6 c0_i32_82
  let v729 : BitVec 32 := Scalar.extui v728
  let v730 : BitVec 32 := Scalar.subi v727 v729
  let c16_i32_80 : BitVec 32 := 16#32
  let c0_i32_83 : BitVec 32 := 0#32
  let v731 : BitVec 1 := Scalar.cmpi .sgt c16_i32_80 c0_i32_83
  let v732 : BitVec 32 := Scalar.extui v731
  let c0_i32_84 : BitVec 32 := 0#32
  let v733 : BitVec 1 := Scalar.cmpi .slt c16_i32_80 c0_i32_84
  let v734 : BitVec 32 := Scalar.extui v733
  let v735 : BitVec 32 := Scalar.subi v732 v734
  let v736 : BitVec 1 := Scalar.cmpi .ne v730 v735
  let v737 : BitVec 32 := Scalar.remsi arg6 c16_i32_80
  let c0_i32_85 : BitVec 32 := 0#32
  let v738 : BitVec 1 := Scalar.cmpi .ne v737 c0_i32_85
  let v739 : BitVec 1 := Scalar.andi v736 v738
  let v725 : BitVec 32 := Scalar.divsi arg6 c16_i32_80
  let c1_i32_86 : BitVec 32 := 1#32
  let v740 : BitVec 32 := Scalar.subi v725 c1_i32_86
  let v741 : BitVec 32 := Scalar.select v739 v740 v725
  let c32_i32_87 : BitVec 32 := 32#32
  let v742 : BitVec 32 := Scalar.muli v741 c32_i32_87
  let c16_i32_88 : BitVec 32 := 16#32
  let c0_i32_89 : BitVec 32 := 0#32
  let v743 : BitVec 1 := Scalar.cmpi .eq c16_i32_88 c0_i32_89
  let c1_i32_90 : BitVec 32 := 1#32
  let v744 : BitVec 32 := Scalar.select v743 c1_i32_90 c16_i32_88
  let v745 : BitVec 32 := Scalar.remsi arg6 v744
  let c0_i32_92 : BitVec 32 := 0#32
  let v747 : BitVec 1 := Scalar.cmpi .slt v745 c0_i32_92
  let c0_i32_93 : BitVec 32 := 0#32
  let v748 : BitVec 1 := Scalar.cmpi .slt v744 c0_i32_93
  let v749 : BitVec 1 := Scalar.xori v747 v748
  let c0_i32_91 : BitVec 32 := 0#32
  let v746 : BitVec 1 := Scalar.cmpi .ne v745 c0_i32_91
  let v750 : BitVec 1 := Scalar.andi v749 v746
  let v751 : BitVec 32 := Scalar.addi v745 v744
  let v752 : BitVec 32 := Scalar.select v750 v751 v745
  let v753 : BitVec 32 := Scalar.addi v742 v752
  let c16_i32_99 : BitVec 32 := 16#32
  let v903 : BitVec 32 := Scalar.addi v753 c16_i32_99
  let c128_i32_100 : BitVec 32 := 128#32
  let v904 : BitVec 32 := Scalar.muli v903 c128_i32_100
  let c64_i32_102 : BitVec 32 := 64#32
  let v907 : BitVec 32 := Scalar.addi v904 c64_i32_102
  let v908 : Index := Scalar.indexCast v907
  let c0_103 : Index := 0#32
  ![v908.toNat, 0]
@[reducible] def k0_t7_loop : Scf.Loop 32 :=
  let c0_i32_73 : BitVec 32 := 0#32
  let c32_i32_74 : BitVec 32 := 32#32
  let v719 : BitVec 32 := Scalar.addi c0_i32_73 c32_i32_74
  let c1_i32_75 : BitVec 32 := 1#32
  ⟨c0_i32_73, v719, c1_i32_75⟩
def k0_off23 (k0_t7 : Fin k0_t7_loop.trips) : Fin 2 → Nat :=
  let c0_i32_73 : BitVec 32 := 0#32
  let c1_i32_75 : BitVec 32 := 1#32
  let arg6 : BitVec 32 := Scf.iv c0_i32_73 c1_i32_75 k0_t7
  let c128_i32 : BitVec 32 := 128#32
  let v725 : BitVec 32 := Scalar.muli arg6 c128_i32
  let v726 : Index := Scalar.indexCast v725
  let c0_80 : Index := 0#32
  ![v726.toNat, 0]
def k0_off24 (k0_t7 : Fin k0_t7_loop.trips) : Fin 2 → Nat :=
  let c0_i32_73 : BitVec 32 := 0#32
  let c1_i32_75 : BitVec 32 := 1#32
  let arg6 : BitVec 32 := Scf.iv c0_i32_73 c1_i32_75 k0_t7
  let c128_i32 : BitVec 32 := 128#32
  let v725 : BitVec 32 := Scalar.muli arg6 c128_i32
  let c64_i32 : BitVec 32 := 64#32
  let v728 : BitVec 32 := Scalar.addi v725 c64_i32
  let v729 : Index := Scalar.indexCast v728
  let c0_81 : Index := 0#32
  ![v729.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x384x3 : Shape := ⟨3, ![4096, 384, 3]⟩
abbrev S_ : Shape := ⟨0, ![]⟩
abbrev S384x3 : Shape := ⟨2, ![384, 3]⟩

abbrev nBuf : Space → Nat
  | .hbm => 15
  | .vmem => 0
  | .smem => 0
  | _ => 0

abbrev bufTy : (tb : Table) → Fin (tcTables nBuf tb) → BufTy
  | .hbm, ⟨0, _⟩ => ⟨S4096x384x3, .f32⟩
  | .hbm, ⟨1, _⟩ => ⟨S4096x384x3, .f32⟩
  | .hbm, ⟨2, _⟩ => ⟨S4096x384x3, .f32⟩
  | .hbm, ⟨3, _⟩ => ⟨S4096x384x3, .f32⟩
  | .hbm, ⟨4, _⟩ => ⟨S4096x384x3, .f32⟩
  | .hbm, ⟨5, _⟩ => ⟨S4096x384x3, .f32⟩
  | .hbm, ⟨6, _⟩ => ⟨S_, .f32⟩
  | .hbm, ⟨7, _⟩ => ⟨S384x3, .f32⟩
  | .hbm, ⟨8, _⟩ => ⟨S_, .f32⟩
  | .hbm, ⟨9, _⟩ => ⟨S384x3, .f32⟩
  | .hbm, ⟨10, _⟩ => ⟨S384x3, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S4096x384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Ops.lean ====
/-
  The kernel's vector operations, named: rotations of rows, compare-exchange steps at one distance,
  the bitonic sort of a 64-row tile and the merges of longer runs, each as the kernel spells it,
  over any float values. A value is `m` rows of 128 columns; every operation acts on rows, the same
  in each column.
-/
module

public import Idealize.ShloMosaic.PureOps.Ideal

@[expose] public section

noncomputable section

namespace Cert.Net

open Idealize.ShloMosaic

/-- `m` rows of 128 columns. -/
abbrev Rows (m : Nat) : Shape := ⟨2, ![m, 128]⟩
/-- `m` rows of one column: the shape of a mask. -/
abbrev Col (m : Nat) : Shape := ⟨2, ![m, 1]⟩
/-- `g` groups of `t` blocks of `j` rows. -/
abbrev Blocks (g t j : Nat) : Shape := ⟨4, ![g, t, j, 128]⟩
/-- `g` blocks of `j` rows. -/
abbrev Blk (g j : Nat) : Shape := ⟨3, ![g, j, 128]⟩

theorem prod2 (f : Fin 2 → Nat) : ∏ a, f a = f 0 * f 1 := by simp [Fin.prod_univ_succ]
theorem prod3 (f : Fin 3 → Nat) : ∏ a, f a = f 0 * (f 1 * f 2) := by simp [Fin.prod_univ_succ]
theorem prod4 (f : Fin 4 → Nat) : ∏ a, f a = f 0 * (f 1 * (f 2 * f 3)) := by
  simp [Fin.prod_univ_succ]

/-- Rows split into groups of blocks. -/
theorem sc_rows_blocks {m g t j : Nat} (h : g * t * j = m) : (Rows m).ShapeCasts (Blocks g t j) := by
  subst h
  simp [Shape.ShapeCasts, Shape.numel, Fin.prod_univ_succ, Nat.mul_assoc]
/-- Groups of blocks joined into rows. -/
theorem sc_blocks_rows {m g t j : Nat} (h : g * t * j = m) : (Blocks g t j).ShapeCasts (Rows m) := by
  subst h
  simp [Shape.ShapeCasts, Shape.numel, Fin.prod_univ_succ, Nat.mul_assoc]
/-- One block per group: the block axis dropped. -/
theorem sc_blocks_blk (g j : Nat) : (Blocks g 1 j).ShapeCasts (Blk g j) := by
  simp [Shape.ShapeCasts, Shape.numel, Fin.prod_univ_succ]
/-- One block per group: the block axis added. -/
theorem sc_blk_blocks (g j : Nat) : (Blk g j).ShapeCasts (Blocks g 1 j) := by
  simp [Shape.ShapeCasts, Shape.numel, Fin.prod_univ_succ]
/-- Blocks joined into rows. -/
theorem sc_blk_rows {m g j : Nat} (h : g * j = m) : (Blk g j).ShapeCasts (Rows m) := by
  subst h
  simp [Shape.ShapeCasts, Shape.numel, Fin.prod_univ_succ, Nat.mul_assoc]
/-- A shape cast to itself. -/
theorem sc_self (s : Shape) : s.ShapeCasts s := by simp [Shape.ShapeCasts]
/-- Block 0 of each pair. -/
theorem sl_first (g j : Nat) : (Blocks g 2 j).Slices ![0, 0, 0, 0] (Blocks g 1 j) :=
  ⟨rfl, by intro a; fin_cases a <;> simp⟩
/-- Block 1 of each pair. -/
theorem sl_second (g j : Nat) : (Blocks g 2 j).Slices ![0, 1, 0, 0] (Blocks g 1 j) :=
  ⟨rfl, by intro a; fin_cases a <;> simp⟩
/-- The two blocks of a pair put side by side. -/
theorem cc_pair (g j : Nat) : Shape.Concatenates [Blocks g 1 j, Blocks g 1 j] (Blocks g 2 j) 1 := by
  refine ⟨by simp, ?_, by simp⟩
  intro s hs
  have : s = Blocks g 1 j := by simpa using hs
  subst this
  refine ⟨rfl, ?_⟩
  intro b hb
  fin_cases b <;> simp_all
/-- The rows from `o` on, `n` of them. -/
theorem sl_rows {m n o : Nat} (h : o + n ≤ m) : (Rows m).Slices ![o, 0] (Rows n) :=
  ⟨rfl, by intro a; fin_cases a <;> simp [h]⟩
/-- Two runs of rows, one after the other. -/
theorem cc_rows {m a b : Nat} (h : a + b = m) : Shape.Concatenates [Rows a, Rows b] (Rows m) 0 := by
  refine ⟨by simp, ?_, by simp [h]⟩
  intro s hs
  have : s = Rows a ∨ s = Rows b := by simpa using hs
  rcases this with rfl | rfl
  all_goals
    refine ⟨rfl, ?_⟩
    intro b hb
    fin_cases b <;> simp_all
/-- A mask's column spread over the 128 columns. -/
theorem bc_col (m : Nat) : (Col m).Broadcasts (Rows m) := by
  refine ⟨by simp, ?_⟩
  intro a
  fin_cases a
  · right; simp
  · left; simp

variable {F : FTy → Type} [FloatOps F]

/-- Row `i` of the result is row `i + j` (the last `j` rows are the first `j`). -/
def shiftUp (m n j : Nat) (h : n + j = m) (x : FVec F (Rows m) .f32) : FVec F (Rows m) .f32 :=
  concatenate (Rows m) 0
    [⟨Rows n, extractStridedSlice (Rows n) ![j, 0] x (sl_rows (by omega))⟩,
     ⟨Rows j, extractStridedSlice (Rows j) ![0, 0] x (sl_rows (by omega))⟩] (cc_rows h)

/-- Row `i` of the result is row `i - j` (the first `j` rows are the last `j`). -/
def shiftDown (m n j : Nat) (h : n + j = m) (x : FVec F (Rows m) .f32) : FVec F (Rows m) .f32 :=
  concatenate (Rows m) 0
    [⟨Rows j, extractStridedSlice (Rows j) ![n, 0] x (sl_rows (by omega))⟩,
     ⟨Rows n, extractStridedSlice (Rows n) ![0, 0] x (sl_rows (by omega))⟩] (cc_rows (by omega))

/-- A mask of rows over every column. -/
def spread (m : Nat) (b : IVec (Col m) 1) : IVec (Rows m) 1 :=
  broadcastTo (Rows m) (shapeCast (Col m) b (sc_self _)) (bc_col m)

/-- The first block of each pair, as `g` blocks. -/
def firstBlk (m g j : Nat) (h : g * 2 * j = m) (x : FVec F (Rows m) .f32) : FVec F (Blk g j) .f32 :=
  shapeCast (Blk g j) (extractStridedSlice (Blocks g 1 j) ![0, 0, 0, 0]
    (shapeCast (Blocks g 2 j) x (sc_rows_blocks h)) (sl_first g j)) (sc_blocks_blk g j)

/-- The second block of each pair, as `g` blocks. -/
def secondBlk (m g j : Nat) (h : g * 2 * j = m) (x : FVec F (Rows m) .f32) : FVec F (Blk g j) .f32 :=
  shapeCast (Blk g j) (extractStridedSlice (Blocks g 1 j) ![0, 1, 0, 0]
    (shapeCast (Blocks g 2 j) x (sc_rows_blocks h)) (sl_second g j)) (sc_blocks_blk g j)

/-- A compare-exchange of the two blocks of `j` rows of every pair: the lesser values to the first
    block if `up`, else to the second. -/
def exchangeBlocks (m g j : Nat) (h : g * 2 * j = m) (up : Bool) (x : FVec F (Rows m) .f32) :
    FVec F (Rows m) .f32 :=
  let a := firstBlk m g j h x
  let b := secondBlk m g j h x
  let lo := shapeCast (Blocks g 1 j) (minimumf a b) (sc_blk_blocks g j)
  let hi := shapeCast (Blocks g 1 j) (maximumf a b) (sc_blk_blocks g j)
  shapeCast (Rows m) (concatenate (Blocks g 2 j) 1
    [⟨Blocks g 1 j, cond up lo hi⟩, ⟨Blocks g 1 j, cond up hi lo⟩] (cc_pair g j)) (sc_blocks_rows h)

/-- A compare-exchange at distance `j` by rotations and a mask of the rows with bit `j` set: the
    lesser value to the row with bit `j` clear if `up`, else to the other. -/
def exchangeRot (m n j : Nat) (h : n + j = m) (up : Bool) (b : IVec (Col m) 1)
    (x : FVec F (Rows m) .f32) : FVec F (Rows m) .f32 :=
  select (spread m b)
    (cond up (maximumf x (shiftDown m n j h x)) (minimumf x (shiftDown m n j h x)))
    (cond up (minimumf x (shiftUp m n j h x)) (maximumf x (shiftUp m n j h x)))

/-- The mask of the rows that keep the lesser value, from the rows' bit `j` and bit `k`: the two
    bits equal if `up`, different otherwise. -/
def keepMin (m : Nat) (up : Bool) (bj bk : IVec (Col m) 1) : IVec (Col m) 1 :=
  cond up (xori (xori bj bk) (constantI (Col m) 1 1#1)) (xori bj bk)

/-- A compare-exchange at distance `j` whose direction is read off a mask of the rows. -/
def exchangeMask (m n j : Nat) (h : n + j = m) (up : Bool) (bj bk : IVec (Col m) 1)
    (x : FVec F (Rows m) .f32) : FVec F (Rows m) .f32 :=
  select (spread m (keepMin m up bj bk))
    (minimumf x (select (spread m bj) (shiftDown m n j h x) (shiftUp m n j h x)))
    (maximumf x (select (spread m bj) (shiftDown m n j h x) (shiftUp m n j h x)))

/-- The masks of rows with bits 1, 2 and 4 set. -/
structure Masks (m : Nat) where
  /-- The rows whose number is odd. -/
  b1 : IVec (Col m) 1
  /-- The rows with bit 2 set. -/
  b2 : IVec (Col m) 1
  /-- The rows with bit 4 set. -/
  b4 : IVec (Col m) 1

/-- The exchanges at distances 4, 2, 1 on 32 rows. -/
def small32 (up : Bool) (M : Masks 32) (x : FVec F (Rows 32) .f32) : FVec F (Rows 32) .f32 :=
  exchangeRot 32 31 1 rfl up M.b1 (exchangeRot 32 30 2 rfl up M.b2 (exchangeRot 32 28 4 rfl up M.b4 x))

/-- The exchanges at distances 4, 2, 1 on 64 rows. -/
def small64 (up : Bool) (M : Masks 64) (x : FVec F (Rows 64) .f32) : FVec F (Rows 64) .f32 :=
  exchangeRot 64 63 1 rfl up M.b1 (exchangeRot 64 62 2 rfl up M.b2 (exchangeRot 64 60 4 rfl up M.b4 x))

/-- The merge of 64 rows: distances 32, 16, 8, 4, 2, 1, all in one direction. -/
def merge64 (up : Bool) (M : Masks 64) (x : FVec F (Rows 64) .f32) : FVec F (Rows 64) .f32 :=
  small64 up M (exchangeBlocks 64 4 8 rfl up (exchangeBlocks 64 2 16 rfl up (exchangeBlocks 64 1 32 rfl up x)))

/-- The first block of each pair of blocks of `k` rows, joined. -/
def firstHalf (m n g k : Nat) (h : g * 2 * k = m) (h' : g * k = n) (x : FVec F (Rows m) .f32) :
    FVec F (Rows n) .f32 :=
  shapeCast (Rows n) (firstBlk m g k h x) (sc_blk_rows h')

/-- The second block of each pair of blocks of `k` rows, joined. -/
def secondHalf (m n g k : Nat) (h : g * 2 * k = m) (h' : g * k = n) (x : FVec F (Rows m) .f32) :
    FVec F (Rows n) .f32 :=
  shapeCast (Rows n) (secondBlk m g k h x) (sc_blk_rows h')

/-- The first and the second blocks of the pairs put back alternately. -/
def interleave (m n g k : Nat) (h : g * 2 * k = m) (h' : g * k = n) (a d : FVec F (Rows n) .f32) :
    FVec F (Rows m) .f32 :=
  shapeCast (Rows m) (concatenate (Blocks g 2 k) 1
    [⟨Blocks g 1 k, shapeCast (Blocks g 1 k) a (sc_rows_blocks (by rw [Nat.mul_one, h']))⟩,
     ⟨Blocks g 1 k, shapeCast (Blocks g 1 k) d (sc_rows_blocks (by rw [Nat.mul_one, h']))⟩] (cc_pair g k))
    (sc_blocks_rows h)

/-- `f` on the even blocks of `k` rows, `f'` on the odd ones. -/
def onHalves (m n g k : Nat) (h : g * 2 * k = m) (h' : g * k = n)
    (f f' : FVec F (Rows n) .f32 → FVec F (Rows n) .f32) (x : FVec F (Rows m) .f32) :
    FVec F (Rows m) .f32 :=
  interleave m n g k h h' (f (firstHalf m n g k h h' x)) (f' (secondHalf m n g k h h' x))

/-- Distances 8, 4, 2, 1 on 32 rows. -/
def steps8 (up : Bool) (M : Masks 32) (x : FVec F (Rows 32) .f32) : FVec F (Rows 32) .f32 :=
  small32 up M (exchangeBlocks 32 2 8 rfl up x)

/-- Distances 16, 8, 4, 2, 1 on 32 rows. -/
def steps16 (up : Bool) (M : Masks 32) (x : FVec F (Rows 32) .f32) : FVec F (Rows 32) .f32 :=
  steps8 up M (exchangeBlocks 32 1 16 rfl up x)

/-- The levels of 2 and 4 rows of a tile of 64. -/
def tileLow (up : Bool) (M : Masks 64) (k2 k4 : IVec (Col 64) 1) (x : FVec F (Rows 64) .f32) :
    FVec F (Rows 64) .f32 :=
  exchangeMask 64 63 1 rfl up M.b1 k4 (exchangeMask 64 62 2 rfl up M.b2 k4
    (exchangeMask 64 63 1 rfl up M.b1 k2 x))

/-- The levels of 8, 16 and 32 rows of a tile of 64. -/
def tileMid (up : Bool) (N : Masks 32) (x : FVec F (Rows 64) .f32) : FVec F (Rows 64) .f32 :=
  onHalves 64 32 1 32 rfl rfl (steps16 up N) (steps16 (!up) N)
    (onHalves 64 32 2 16 rfl rfl (steps8 up N) (steps8 (!up) N)
      (onHalves 64 32 4 8 rfl rfl (small32 up N) (small32 (!up) N) x))

/-- The bitonic sort of a tile of 64 rows. -/
def tileSort (up : Bool) (M : Masks 64) (N : Masks 32) (k2 k4 : IVec (Col 64) 1)
    (x : FVec F (Rows 64) .f32) : FVec F (Rows 64) .f32 :=
  merge64 up M (tileMid up N (tileLow up M k2 k4 x))

/-- The mask of the rows with the bit `j` set. -/
def bitMask (m : Nat) (h : (Col m).Iotas .tc 32 [0]) (j : BitVec 32) : IVec (Col m) 1 :=
  cmpi .ne (andi (iota .tc (Col m) 32 [0] h) (broadcast (Col m) j)) (broadcast (Col m) 0#32)

/-- The masks of bits 1, 2 and 4. -/
def bitMasks (m : Nat) (h : (Col m).Iotas .tc 32 [0]) : Masks m :=
  ⟨bitMask m h 1#32, bitMask m h 2#32, bitMask m h 4#32⟩

/-- The tile sort with the masks the kernel computes. -/
def tileSort' (h64 : (Col 64).Iotas .tc 32 [0]) (h32 : (Col 32).Iotas .tc 32 [0]) (up : Bool)
    (x : FVec F (Rows 64) .f32) : FVec F (Rows 64) .f32 :=
  tileSort up (bitMasks 64 h64) (bitMasks 32 h32) (bitMask 64 h64 2#32) (bitMask 64 h64 4#32) x

/-- The level of 256 rows, its distance 128, on 2048 rows (the halves of the scratch that go one way). -/
def down256 (up : Bool) (x : FVec F (Rows 2048) .f32) : FVec F (Rows 2048) .f32 :=
  exchangeBlocks 2048 8 128 rfl up x

/-- Distances 256 and 128 on 2048 rows. -/
def down512 (up : Bool) (x : FVec F (Rows 2048) .f32) : FVec F (Rows 2048) .f32 :=
  down256 up (exchangeBlocks 2048 4 256 rfl up x)

/-- Distances 512, 256 and 128 on 2048 rows. -/
def down1024 (up : Bool) (x : FVec F (Rows 2048) .f32) : FVec F (Rows 2048) .f32 :=
  down512 up (exchangeBlocks 2048 2 512 rfl up x)

/-- Distances 1024, 512, 256 and 128 on 2048 rows. -/
def down2048 (up : Bool) (x : FVec F (Rows 2048) .f32) : FVec F (Rows 2048) .f32 :=
  down1024 up (exchangeBlocks 2048 1 1024 rfl up x)

/-- The large distances of the level of 256 rows, on the whole scratch. -/
def head256 (x : FVec F (Rows 4096) .f32) : FVec F (Rows 4096) .f32 :=
  onHalves 4096 2048 8 256 rfl rfl (down256 true) (down256 false) x

/-- The large distances of the level of 512 rows. -/
def head512 (x : FVec F (Rows 4096) .f32) : FVec F (Rows 4096) .f32 :=
  onHalves 4096 2048 4 512 rfl rfl (down512 true) (down512 false) x

/-- The large distances of the level of 1024 rows. -/
def head1024 (x : FVec F (Rows 4096) .f32) : FVec F (Rows 4096) .f32 :=
  onHalves 4096 2048 2 1024 rfl rfl (down1024 true) (down1024 false) x

/-- The large distances of the level of 2048 rows. -/
def head2048 (x : FVec F (Rows 4096) .f32) : FVec F (Rows 4096) .f32 :=
  onHalves 4096 2048 1 2048 rfl rfl (down2048 true) (down2048 false) x

/-- The large distances of the last level, 2048 down to 128. -/
def head4096 (x : FVec F (Rows 4096) .f32) : FVec F (Rows 4096) .f32 :=
  exchangeBlocks 4096 16 128 rfl true (exchangeBlocks 4096 8 256 rfl true
    (exchangeBlocks 4096 4 512 rfl true (exchangeBlocks 4096 2 1024 rfl true
      (exchangeBlocks 4096 1 2048 rfl true x))))

/-- The first 64 rows of a pair of tiles after its merge: the lesser values if `up`. -/
def tail0 (up : Bool) (M : Masks 64) (t0 t1 : FVec F (Rows 64) .f32) : FVec F (Rows 64) .f32 :=
  merge64 up M (cond up (minimumf t0 t1) (maximumf t0 t1))

/-- The last 64 rows of a pair of tiles after its merge. -/
def tail1 (up : Bool) (M : Masks 64) (t0 t1 : FVec F (Rows 64) .f32) : FVec F (Rows 64) .f32 :=
  merge64 up M (cond up (maximumf t0 t1) (minimumf t0 t1))

/-- A shape cast of 64 rows to themselves, as the kernel writes at a load or a store. -/
def same64 (x : FVec F (Rows 64) .f32) : FVec F (Rows 64) .f32 := shapeCast (Rows 64) x (sc_self _)

/-- The same of the whole scratch. -/
def same4096 (x : FVec F (Rows 4096) .f32) : FVec F (Rows 4096) .f32 := shapeCast (Rows 4096) x (sc_self _)

end Cert.Net

end
-- ==== Proof.Prog.lean ====
/-
  The kernel body as a program over the named vector operations: the tile sorts, the large
  distances on the whole scratch, the merges of pairs of tiles, and the last loop, which adds up
  the absolute differences. The loops and the places they access are parameters.
-/
module

public import Idealize.ShloMosaic.PureOps.Ideal
public import Idealize.ShloMosaic.Lib.Scf
public import proofs.«01_k».proof.Proof.Ops

@[expose] public section

noncomputable section

namespace Cert.Net

open Idealize.ShloMosaic Idealize.SL.Sem

/-- The places a loop accesses: at each trip, the offsets of 64 rows of the scratch. -/
structure Spots (n : Nat) where
  /-- The offsets at a trip. -/
  o : Fin n → Fin 2 → Nat
  /-- They are in bounds. -/
  h : ∀ t a, o t a + (Rows 64).size a ≤ (Rows 4096).size a

/-- A loop that accesses two places at each trip. -/
structure Loop2 where
  /-- Its operands. -/
  l : Scf.Loop 32
  /-- They give it a meaning. -/
  ok : l.OK
  /-- The first place. -/
  p : Spots l.trips
  /-- The second place. -/
  p' : Spots l.trips

/-- A loop that accesses four places at each trip. -/
structure Loop4 extends Loop2 where
  /-- The third place. -/
  q : Spots l.trips
  /-- The fourth place. -/
  q' : Spots l.trips

theorem pos64 : 0 < (Rows 64).numel := by simp [Shape.numel, Fin.prod_univ_succ]
theorem pos4096 : 0 < (Rows 4096).numel := by simp [Shape.numel, Fin.prod_univ_succ]
theorem posOut : 0 < (⟨3, ![1, 1, 128]⟩ : Shape).numel := by simp [Shape.numel, Fin.prod_univ_succ]
theorem inbAll (a) : (![0, 0] : Fin 2 → Nat) a + (Rows 4096).size a ≤ (Rows 4096).size a := by
  fin_cases a <;> simp
theorem inbOut (a) : (![0, 0, 0] : Fin 3 → Nat) a + (⟨3, ![1, 1, 128]⟩ : Shape).size a ≤ (⟨3, ![1, 1, 128]⟩ : Shape).size a := by
  fin_cases a <;> simp

variable {F : FTy → Type} [FloatOps F] {nD : Nat} {τ : Topo} {sig : RefSig} {Λ : Labels}

/-- The scratch or a block of an input, in VMEM. -/
abbrev Ref (sig : RefSig) := Memref sig .tc .vmem (Rows 4096) .f32

/-- A load of 64 rows. -/
def ld (a : Ref sig) (o : Fin 2 → Nat) (h : ∀ a, o a + (Rows 64).size a ≤ (Rows 4096).size a) :
    Prog (TpuEff nD τ sig (Elt F) Λ .tc) (Vec F (Rows 64) .f32) :=
  Prog.lift (.load a (Rect.unit (s := Rows 4096) o (Rows 64).size h).toLoadRect (View.loadsAt_vmem pos64))

/-- A store of 64 rows. -/
def st (a : Ref sig) (o : Fin 2 → Nat) (h : ∀ a, o a + (Rows 64).size a ≤ (Rows 4096).size a)
    (x : Vec F (Rows 64) .f32) : Prog (TpuEff nD τ sig (Elt F) Λ .tc) PUnit :=
  Prog.lift (.store a (Rect.unit (s := Rows 4096) o (Rows 64).size h) x Finset.univ
    (View.stores_vmem_bits_univ pos64 rfl) (.inl rfl))

/-- A load of the whole. -/
def ldAll (a : Ref sig) : Prog (TpuEff nD τ sig (Elt F) Λ .tc) (Vec F (Rows 4096) .f32) :=
  Prog.lift (.load a (Rect.unit (s := Rows 4096) ![0, 0] (Rows 4096).size inbAll).toLoadRect (View.loadsAt_vmem pos4096))

/-- A store of the whole. -/
def stAll (a : Ref sig) (x : Vec F (Rows 4096) .f32) : Prog (TpuEff nD τ sig (Elt F) Λ .tc) PUnit :=
  Prog.lift (.store a (Rect.unit (s := Rows 4096) ![0, 0] (Rows 4096).size inbAll) x Finset.univ
    (View.stores_vmem_bits_univ pos4096 rfl) (.inl rfl))

variable (nD τ Λ F)

/-- One tile of an input, sorted, to the scratch. -/
def tileStep (h64 : (Col 64).Iotas .tc 32 [0]) (h32 : (Col 32).Iotas .tc 32 [0]) (src dst : Ref sig)
    {n : Nat} (p : Spots n) (t : Fin n) (up : Bool) : Prog (TpuEff nD τ sig (Elt F) Λ .tc) PUnit := do
  let x ← ld (F := F) src (p.o t) (p.h t)
  let _ ← ld (F := F) dst (p.o t) (p.h t)
  st dst (p.o t) (p.h t) (same64 (tileSort' h64 h32 up (same64 x)))

/-- The first loop: both inputs' tiles, sorted up and down alternately, to the two scratch buffers. -/
def sortLoop (h64 : (Col 64).Iotas .tc 32 [0]) (h32 : (Col 32).Iotas .tc 32 [0]) (L : Loop2)
    (a1 a2 a4 a5 : Ref sig) : Prog (TpuEff nD τ sig (Elt F) Λ .tc) Unit :=
  Scf.Loop.for L.l L.ok () fun t _ => do
    tileStep F nD τ Λ h64 h32 a1 a4 L.p t true
    tileStep F nD τ Λ h64 h32 a1 a4 L.p' t false
    tileStep F nD τ Λ h64 h32 a2 a5 L.p t true
    tileStep F nD τ Λ h64 h32 a2 a5 L.p' t false
    pure ()

/-- The merge of one pair of tiles. -/
def tailStep (M : Masks 64) (a : Ref sig) {n : Nat} (p p' : Spots n) (t : Fin n) (up : Bool) :
    Prog (TpuEff nD τ sig (Elt F) Λ .tc) PUnit := do
  let t0 ← ld a (p.o t) (p.h t)
  let t1 ← ld a (p'.o t) (p'.h t)
  let _ ← ld (F := F) a (p.o t) (p.h t)
  st a (p.o t) (p.h t) (same64 (tail0 up M t0 t1))
  let _ ← ld (F := F) a (p'.o t) (p'.h t)
  st a (p'.o t) (p'.h t) (same64 (tail1 up M t0 t1))

/-- The merges of all pairs of tiles of both scratch buffers. -/
def tailLoop (M : Masks 64) (L : Loop4) (a4 a5 : Ref sig) : Prog (TpuEff nD τ sig (Elt F) Λ .tc) Unit :=
  Scf.Loop.for L.l L.ok () fun t _ => do
    tailStep F nD τ Λ M a4 L.p L.p' t true
    tailStep F nD τ Λ M a4 L.q L.q' t false
    tailStep F nD τ Λ M a5 L.p L.p' t true
    tailStep F nD τ Λ M a5 L.q L.q' t false
    pure ()

/-- A function of the whole scratch, applied to it in place. -/
def headStep (f : FVec F (Rows 4096) .f32 → FVec F (Rows 4096) .f32) (a : Ref sig) :
    Prog (TpuEff nD τ sig (Elt F) Λ .tc) PUnit := do
  let x ← ldAll (F := F) a
  let _ ← ldAll (F := F) a
  stAll a (same4096 (f x))

variable {F}

theorem sc_128_1x128 : (⟨1, ![128]⟩ : Shape).ShapeCasts ⟨2, ![1, 128]⟩ := by decide +kernel
theorem sc_1x128_128 : (⟨2, ![1, 128]⟩ : Shape).ShapeCasts ⟨1, ![128]⟩ := by decide +kernel
theorem sc_128_out : (⟨1, ![128]⟩ : Shape).ShapeCasts ⟨3, ![1, 1, 128]⟩ := by decide +kernel
theorem red64 : (Rows 64).Reduces [0] ⟨1, ![128]⟩ := by decide +kernel

/-- The absolute differences of two tiles, added up along the rows. -/
def colSum (x y : FVec F (Rows 64) .f32) : FVec F ⟨1, ![128]⟩ .f32 :=
  multiReduction .add [0] ⟨1, ![128]⟩ (absf (subf x y)) 0x00000000#32 red64 (.inl rfl) rfl

/-- The running sum with two pairs of tiles added. -/
def addTiles (v : FVec F ⟨2, ![1, 128]⟩ .f32) (x0 x1 y0 y1 : FVec F (Rows 64) .f32) : FVec F ⟨2, ![1, 128]⟩ .f32 :=
  addf (addf v (shapeCast ⟨2, ![1, 128]⟩ (colSum x0 y0) sc_128_1x128)) (shapeCast ⟨2, ![1, 128]⟩ (colSum x1 y1) sc_128_1x128)

variable (F)

/-- The last loop: the last merges, kept in registers, and the sum of the absolute differences. -/
def sumLoop (M : Masks 64) (L : Loop2) (a4 a5 : Ref sig) :
    Prog (TpuEff nD τ sig (Elt F) Λ .tc) (FVec F ⟨2, ![1, 128]⟩ .f32) :=
  Scf.Loop.for L.l L.ok (broadcast ⟨2, ![1, 128]⟩ (Scalar.ofBits .f32 0x00000000#32)) fun t v => do
    let x0 ← ld a4 (L.p.o t) (L.p.h t)
    let x1 ← ld a4 (L.p'.o t) (L.p'.h t)
    let y0 ← ld a5 (L.p.o t) (L.p.h t)
    let y1 ← ld a5 (L.p'.o t) (L.p'.h t)
    pure (addTiles v (tail0 true M x0 x1) (tail1 true M x0 x1) (tail0 true M y0 y1) (tail1 true M y0 y1))

/-- The kernel body. -/
def kernelProg (h64 : (Col 64).Iotas .tc 32 [0]) (h32 : (Col 32).Iotas .tc 32 [0]) (L1 : Loop2)
    (L2 L3 L4 L5 L6 : Loop4) (L7 : Loop2) (a1 a2 : Ref sig) (a3 : Memref sig .tc .vmem ⟨3, ![1, 1, 128]⟩ .f32)
    (a4 a5 : Ref sig) : Prog (TpuEff nD τ sig (Elt F) Λ .tc) PUnit := do
  let _ ← sortLoop F nD τ Λ h64 h32 L1 a1 a2 a4 a5
  let _ ← tailLoop F nD τ Λ (bitMasks 64 h64) L2 a4 a5
  headStep F nD τ Λ head256 a4
  headStep F nD τ Λ head256 a5
  let _ ← tailLoop F nD τ Λ (bitMasks 64 h64) L3 a4 a5
  headStep F nD τ Λ head512 a4
  headStep F nD τ Λ head512 a5
  let _ ← tailLoop F nD τ Λ (bitMasks 64 h64) L4 a4 a5
  headStep F nD τ Λ head1024 a4
  headStep F nD τ Λ head1024 a5
  let _ ← tailLoop F nD τ Λ (bitMasks 64 h64) L5 a4 a5
  headStep F nD τ Λ head2048 a4
  headStep F nD τ Λ head2048 a5
  let _ ← tailLoop F nD τ Λ (bitMasks 64 h64) L6 a4 a5
  headStep F nD τ Λ head4096 a4
  headStep F nD τ Λ head4096 a5
  let v ← sumLoop F nD τ Λ (bitMasks 64 h64) L7 a4 a5
  let _ : Vec F ⟨3, ![1, 1, 128]⟩ .f32 ← Prog.lift (.load a3 (Rect.unit (s := ⟨3, ![1, 1, 128]⟩) ![0, 0, 0] (⟨3, ![1, 1, 128]⟩ : Shape).size inbOut).toLoadRect (View.loadsAt_vmem posOut))
  Prog.lift (.store a3 (Rect.unit (s := ⟨3, ![1, 1, 128]⟩) ![0, 0, 0] (⟨3, ![1, 1, 128]⟩ : Shape).size inbOut)
    (shapeCast ⟨3, ![1, 1, 128]⟩ (shapeCast ⟨1, ![128]⟩ v sc_1x128_128) sc_128_out) Finset.univ
    (View.stores_vmem_bits_univ posOut rfl) (.inl rfl))

/-! Two programs that run the same requests and loops are equal. -/

/-- Equal where the first request is the same and so are the rests. -/
theorem eq_op {E : Type → Type} {α β : Type} {p q : Prog E α} (e : E β) (k k' : β → Prog E α)
    (hp : p = .op e k) (hq : q = .op e k') (h : ∀ x, k x = k' x) : p = q := by
  rw [hp, hq, funext h]

/-- Equal where the first loop is the same and so are the rests; the loop stands inside one other program. -/
theorem eq_loop2 {E : Type → Type} {α β γ : Type} {p q : Prog E α} (l : Prog E β) (k : β → Prog E γ)
    (g : γ → Prog E α) (k' : β → Prog E α) (hp : p = ((l >>= k) >>= g)) (hq : q = (l >>= k'))
    (h : ∀ x, (k x >>= g) = k' x) : p = q := by
  rw [hp, hq, bind_assoc, funext h]

/-- Equal where the first loop is the same and so are the rests; the loop stands inside two other programs. -/
theorem eq_loop3 {E : Type → Type} {α β γ δ : Type} {p q : Prog E α} (l : Prog E β) (k : β → Prog E γ)
    (g : γ → Prog E δ) (f : δ → Prog E α) (k' : β → Prog E α) (hp : p = (((l >>= k) >>= g) >>= f)) (hq : q = (l >>= k'))
    (h : ∀ x, ((k x >>= g) >>= f) = k' x) : p = q := by
  rw [hp, hq, bind_assoc, bind_assoc, ← funext h]
  simp only [bind_assoc]

end Cert.Net

end
-- ==== Proof.Steps.lean ====
/-
  What the kernel body does to the contents of its buffers, as plain functions: a tile put into the
  scratch, a pair of tiles merged in place, a function applied to the whole scratch, and the loops
  over these.
-/
module

public import Idealize.ShloMosaic.Lib.ValueIdxCore
public import Idealize.ShloMosaic.Lib.VecWindow
public import proofs.«01_k».proof.Proof.Prog

@[expose] public section

noncomputable section

namespace Cert.Net

open Idealize.ShloMosaic Idealize.SL.Sem

variable {F : FTy → Type} [FloatOps F]

/-- The state after the first `k` of `n` steps. -/
def steps {α : Type} (n : Nat) (f : Fin n → α → α) : Nat → α → α
  | 0, a => a
  | k + 1, a => if h : k < n then f ⟨k, h⟩ (steps n f k a) else steps n f k a

/-- One more step. -/
theorem steps_succ {α : Type} {n : Nat} (f : Fin n → α → α) (k : Fin n) (a : α) :
    steps n f (k.val + 1) a = f k (steps n f k.val a) := by
  show (if h : k.val < n then _ else _) = _
  rw [dif_pos k.isLt]

/-- 64 rows of the scratch. -/
def cut {n : Nat} (p : Spots n) (t : Fin n) (A : Vec F (Rows 4096) .f32) : Vec F (Rows 64) .f32 :=
  VecWindow.window A (p.o t) (Rows 64).size (p.h t)

/-- The scratch with 64 rows replaced. -/
def paste {n : Nat} (p : Spots n) (t : Fin n) (x : Vec F (Rows 64) .f32) (A : Vec F (Rows 4096) .f32) :
    Vec F (Rows 4096) .f32 :=
  VecWindow.put A (p.o t) (Rows 64).size x

/-- The scratch after one tile of the input `X` is sorted into it. -/
def tileFn (h64 : (Col 64).Iotas .tc 32 [0]) (h32 : (Col 32).Iotas .tc 32 [0]) {n : Nat} (p : Spots n) (t : Fin n)
    (up : Bool) (X A : Vec F (Rows 4096) .f32) : Vec F (Rows 4096) .f32 :=
  paste p t (same64 (tileSort' h64 h32 up (same64 (cut p t X)))) A

/-- The scratch after one trip of the first loop. -/
def sortTrip (h64 : (Col 64).Iotas .tc 32 [0]) (h32 : (Col 32).Iotas .tc 32 [0]) (L : Loop2)
    (X : Vec F (Rows 4096) .f32) (t : Fin L.l.trips) (A : Vec F (Rows 4096) .f32) : Vec F (Rows 4096) .f32 :=
  tileFn h64 h32 L.p' t false X (tileFn h64 h32 L.p t true X A)

/-- The scratch after the merge of one pair of tiles. -/
def tailFn (M : Masks 64) {n : Nat} (p p' : Spots n) (t : Fin n) (up : Bool) (A : Vec F (Rows 4096) .f32) :
    Vec F (Rows 4096) .f32 :=
  paste p' t (same64 (tail1 up M (cut p t A) (cut p' t A))) (paste p t (same64 (tail0 up M (cut p t A) (cut p' t A))) A)

/-- The scratch after one trip of a loop of merges. -/
def tailTrip (M : Masks 64) (L : Loop4) (t : Fin L.l.trips) (A : Vec F (Rows 4096) .f32) : Vec F (Rows 4096) .f32 :=
  tailFn M L.q L.q' t false (tailFn M L.p L.p' t true A)

/-- The scratch after a loop of merges. -/
def tailAll (M : Masks 64) (L : Loop4) (A : Vec F (Rows 4096) .f32) : Vec F (Rows 4096) .f32 :=
  steps L.l.trips (tailTrip M L) L.l.trips A

/-- The running sum after one trip of the last loop. -/
def sumTrip (M : Masks 64) (L : Loop2) (A B : Vec F (Rows 4096) .f32) (t : Fin L.l.trips)
    (v : FVec F ⟨2, ![1, 128]⟩ .f32) : FVec F ⟨2, ![1, 128]⟩ .f32 :=
  addTiles v (tail0 true M (cut L.p t A) (cut L.p' t A)) (tail1 true M (cut L.p t A) (cut L.p' t A))
    (tail0 true M (cut L.p t B) (cut L.p' t B)) (tail1 true M (cut L.p t B) (cut L.p' t B))

/-- The sum the last loop leaves. -/
def sumAll (M : Masks 64) (L : Loop2) (A B : Vec F (Rows 4096) .f32) : FVec F ⟨2, ![1, 128]⟩ .f32 :=
  steps L.l.trips (sumTrip M L A B) L.l.trips (broadcast ⟨2, ![1, 128]⟩ (Scalar.ofBits .f32 0x00000000#32))

/-- The scratch before the last loop, from the scratch as the first loop leaves it. -/
def middle (M : Masks 64) (L2 L3 L4 L5 L6 : Loop4) (A : Vec F (Rows 4096) .f32) : Vec F (Rows 4096) .f32 :=
  same4096 (head4096 (tailAll M L6 (same4096 (head2048 (tailAll M L5 (same4096 (head1024 (tailAll M L4
    (same4096 (head512 (tailAll M L3 (same4096 (head256 (tailAll M L2 A))))))))))))))

/-- The block of the result, from the two scratch buffers as the first loop leaves them. -/
def outOf (M : Masks 64) (L2 L3 L4 L5 L6 : Loop4) (L7 : Loop2) (A B : Vec F (Rows 4096) .f32) :
    Vec F ⟨3, ![1, 1, 128]⟩ .f32 :=
  shapeCast ⟨3, ![1, 1, 128]⟩ (shapeCast ⟨1, ![128]⟩
    (sumAll M L7 (middle M L2 L3 L4 L5 L6 A) (middle M L2 L3 L4 L5 L6 B)) sc_1x128_128) sc_128_out

/-! The first loop fills the scratch, whatever it held. -/

/-- What the first loop accesses: at trip `t` rows `128 t` on and `128 t + 64` on. -/
structure Sweeps (L : Loop2) : Prop where
  /-- It makes 32 trips. -/
  trips : L.l.trips = 32
  /-- The first place. -/
  o : ∀ t, L.p.o t = ![128 * t.val, 0]
  /-- The second place. -/
  o' : ∀ t, L.p'.o t = ![128 * t.val + 64, 0]

/-- An entry of the scratch with 64 rows replaced. -/
theorem paste_apply {n : Nat} (p : Spots n) (t : Fin n) {a : Nat} (ha : p.o t = ![a, 0]) (x : Vec F (Rows 64) .f32)
    (A : Vec F (Rows 4096) .f32) (i : (Rows 4096).Idx) :
    paste p t x A i = if h : a ≤ (i 0).val ∧ (i 0).val < a + 64 then
      x (ValueIdx.ix2 ⟨(i 0).val - a, by omega⟩ (i 1)) else A i := by
  unfold paste VecWindow.put
  by_cases h : a ≤ (i 0).val ∧ (i 0).val < a + 64
  · have h' : ∀ b, p.o t b ≤ (i b).val ∧ (i b).val < p.o t b + (Rows 64).size b := by
      intro b
      rw [ha]
      match b with
      | ⟨0, _⟩ => exact h
      | ⟨1, _⟩ => exact ⟨Nat.zero_le _, by have : (i 1).val < 128 := (i 1).isLt; show (i 1).val < 0 + 128; omega⟩
    rw [dif_pos h', dif_pos h]
    congr 1
    funext b
    apply Fin.ext
    show (i b).val - p.o t b = _
    rw [ha]
    match b with
    | ⟨0, _⟩ => rfl
    | ⟨1, _⟩ => rfl
  · rw [dif_neg h, dif_neg]
    intro h'
    have := h' 0
    rw [ha] at this
    exact h this

/-- An entry of 64 rows of the scratch. -/
theorem cut_apply {n : Nat} (p : Spots n) (t : Fin n) {a : Nat} (ha : p.o t = ![a, 0]) (h64 : a + 64 ≤ 4096)
    (A : Vec F (Rows 4096) .f32) (i : (Rows 64).Idx) :
    cut p t A i = A (ValueIdx.ix2 ⟨a + (i 0).val, by have : (i 0).val < 64 := (i 0).isLt; omega⟩ (i 1)) := by
  unfold cut VecWindow.window
  congr 1
  funext b
  apply Fin.ext
  rw [Rect.emb_apply]
  show p.o t b + 1 * (i b).val = _
  rw [ha]
  match b with
  | ⟨0, _⟩ => show a + 1 * (i 0).val = a + (i 0).val; omega
  | ⟨1, _⟩ => show 0 + 1 * (i 1).val = (i 1).val; omega

/-- Two runs of the first loop agree on the rows they have reached. -/
theorem sort_agree (h64 : (Col 64).Iotas .tc 32 [0]) (h32 : (Col 32).Iotas .tc 32 [0]) (L : Loop2) (hL : Sweeps L)
    (X A B : Vec F (Rows 4096) .f32) (k : Nat) (hk : k ≤ L.l.trips) (i : (Rows 4096).Idx) (hi : (i 0).val < 128 * k) :
    steps L.l.trips (sortTrip h64 h32 L X) k A i = steps L.l.trips (sortTrip h64 h32 L X) k B i := by
  induction k with
  | zero => omega
  | succ k ih =>
    rw [steps_succ _ ⟨k, hk⟩, steps_succ _ ⟨k, hk⟩]
    simp only [sortTrip, tileFn]
    rw [paste_apply _ _ (hL.o' ⟨k, hk⟩), paste_apply _ _ (hL.o' ⟨k, hk⟩), paste_apply _ _ (hL.o ⟨k, hk⟩),
      paste_apply _ _ (hL.o ⟨k, hk⟩)]
    split
    · rfl
    · split
      · rfl
      · exact ih (by omega) (by simp only at *; omega)

/-- The scratch as the first loop leaves it, from the input. -/
def sorted (h64 : (Col 64).Iotas .tc 32 [0]) (h32 : (Col 32).Iotas .tc 32 [0]) (L : Loop2)
    (X : Vec F (Rows 4096) .f32) : Vec F (Rows 4096) .f32 :=
  steps L.l.trips (sortTrip h64 h32 L X) L.l.trips X

/-- The first loop leaves that whatever the scratch held. -/
theorem sorted_eq (h64 : (Col 64).Iotas .tc 32 [0]) (h32 : (Col 32).Iotas .tc 32 [0]) (L : Loop2) (hL : Sweeps L)
    (X A : Vec F (Rows 4096) .f32) : steps L.l.trips (sortTrip h64 h32 L X) L.l.trips A = sorted h64 h32 L X := by
  funext i
  exact sort_agree h64 h32 L hL X A X _ (Nat.le_refl _) i (by rw [hL.trips]; exact (i 0).isLt)

end Cert.Net

end
-- ==== Proof.Run.lean ====
/-
  The body run: each load, store and loop of the kernel's program over the buffers it owns, stated
  once for any machine parameters, down to the block of the result it leaves.
-/
module

public import Idealize.ShloMosaic.Lib.Tactic
public import proofs.«01_k».proof.Proof.Steps

@[expose] public section

noncomputable section

namespace Cert.Net

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ : Labels}
variable {U : Type} [URA U]

local notation "𝕄" => MT nD τ sig Unit (Elt F) ℕ U ℕ

variable (defs : Defs nD τ sig (Elt F) Λ) (c : Dev nD)

/-- The weakest precondition of a program on core `c`. -/
abbrev wpc {α : Type} (p : Prog (TpuEff nD τ sig (Elt F) Λ .tc) α) (Q : α → sProp 𝕄) : sProp 𝕄 :=
  wp frame (wpE defs Variants.none (c : Thread nD τ) none) Set.univ p Q

variable {α : Type} {Q : α → sProp (MT nD τ sig Unit (Elt F) ℕ U ℕ)}

/-- A load of a rectangle of a buffer owned reads that rectangle of its contents. -/
theorem load_rule {s : Shape} (a : Memref sig .tc .vmem s .f32) (r : Rect s) (hl) (q : PosShare TreeShare)
    (X : Vec F s .f32) (k : Vec F r.shape .f32 → Prog (TpuEff nD τ sig (Elt F) Λ .tc) α) :
    (owns (c : Thread nD τ) a q X : sProp 𝕄)
      ⊢ iprop((owns (c : Thread nD τ) a q X -∗ wpc defs c (k (View.ld X r)) Q)
        -∗ wpc defs c (Prog.lift (.load a r.toLoadRect hl) >>= k) Q) := by
  unfold owns
  iintro ⟨%f, %hf, H⟩ Hk
  iapply (wp_load_rect Variants.none (c : Thread nD τ) none Set.univ (m := a) (r := r) (S := a.view.set) (q := q) (f := f)
    (View.set_slice_subset _ _)) $$ H
  iintro H
  have e : (a.access r).read (Elt F) f = View.ld X r := by subst hf; rfl
  rw [e]
  iapply Hk
  iexists f
  isplitr
  · ipureintro; exact hf
  · iexact H

/-- A store of a rectangle of a buffer owned leaves its contents with that rectangle replaced. -/
theorem store_rule {s : Shape} (a : Memref sig .tc .vmem s .f32) (r : Rect s) (w : Vec F r.shape .f32) (hx) (hm)
    (X : Vec F s .f32) (Y : Vec F s .f32) (hY : ∀ f : a.view.ty.Contents (Elt F), a.view.read (Elt F) f = X →
      a.view.read (Elt F) ((a.access r).write (Elt F) f w Finset.univ) = Y)
    (k : PUnit → Prog (TpuEff nD τ sig (Elt F) Λ .tc) α) :
    (owns (c : Thread nD τ) a fullShare X : sProp 𝕄)
      ⊢ iprop((owns (c : Thread nD τ) a fullShare Y -∗ wpc defs c (k ⟨⟩) Q)
        -∗ wpc defs c (Prog.lift (.store a r w Finset.univ hx hm) >>= k) Q) := by
  unfold owns
  iintro ⟨%f, %hf, H⟩ Hk
  iapply (wp_store Variants.none (c : Thread nD τ) none Set.univ (m := a) (r := r) (S := a.view.set) (f := f)
    (View.set_slice_subset _ _)) $$ H
  iintro H
  iapply Hk
  iexists ((a.access r).write (Elt F) f w Finset.univ)
  isplitr
  · ipureintro; exact hY f hf
  · iexact H

/-- The same of a store that ends the program. -/
theorem store_last {s : Shape} (a : Memref sig .tc .vmem s .f32) (r : Rect s) (w : Vec F r.shape .f32) (hx) (hm)
    (X : Vec F s .f32) (Y : Vec F s .f32) (hY : ∀ f : a.view.ty.Contents (Elt F), a.view.read (Elt F) f = X →
      a.view.read (Elt F) ((a.access r).write (Elt F) f w Finset.univ) = Y)
    (Q : PUnit → sProp (MT nD τ sig Unit (Elt F) ℕ U ℕ)) :
    (owns (c : Thread nD τ) a fullShare X : sProp 𝕄)
      ⊢ iprop((owns (c : Thread nD τ) a fullShare Y -∗ Q ⟨⟩)
        -∗ wpc defs c (Prog.lift (.store a r w Finset.univ hx hm)) Q) := by
  have h := store_rule (Q := Q) defs c a r w hx hm X Y hY pure
  rw [bind_pure] at h
  iintro H Hk
  iapply h $$ H
  iintro H
  iapply le_wp_ret
  iapply Hk
  iexact H

/-- A load of 64 rows. -/
theorem ld_rule {n : Nat} (a : Ref sig) (p : Spots n) (t : Fin n) (q : PosShare TreeShare) (X : Vec F (Rows 4096) .f32)
    (k : Vec F (Rows 64) .f32 → Prog (TpuEff nD τ sig (Elt F) Λ .tc) α) :
    (owns (c : Thread nD τ) a q X : sProp 𝕄)
      ⊢ iprop((owns (c : Thread nD τ) a q X -∗ wpc defs c (k (cut p t X)) Q)
        -∗ wpc defs c (ld a (p.o t) (p.h t) >>= k) Q) :=
  load_rule defs c a (Rect.unit (s := Rows 4096) (p.o t) (Rows 64).size (p.h t)) (View.loadsAt_vmem pos64) q X k

/-- A store of 64 rows. -/
theorem st_rule {n : Nat} (a : Ref sig) (p : Spots n) (t : Fin n) (x : Vec F (Rows 64) .f32) (X : Vec F (Rows 4096) .f32)
    (k : PUnit → Prog (TpuEff nD τ sig (Elt F) Λ .tc) α) :
    (owns (c : Thread nD τ) a fullShare X : sProp 𝕄)
      ⊢ iprop((owns (c : Thread nD τ) a fullShare (paste p t x X) -∗ wpc defs c (k ⟨⟩) Q)
        -∗ wpc defs c (st a (p.o t) (p.h t) x >>= k) Q) :=
  store_rule defs c a _ _ _ _ X _ (fun f hf => by
    subst hf
    exact View.read_writes_cons_put a.view f (p.h t) x [] rfl) k

/-- A load of the whole. -/
theorem ldAll_rule (a : Ref sig) (q : PosShare TreeShare) (X : Vec F (Rows 4096) .f32)
    (k : Vec F (Rows 4096) .f32 → Prog (TpuEff nD τ sig (Elt F) Λ .tc) α) :
    (owns (c : Thread nD τ) a q X : sProp 𝕄)
      ⊢ iprop((owns (c : Thread nD τ) a q X -∗ wpc defs c (k X) Q) -∗ wpc defs c (ldAll a >>= k) Q) := by
  have e : View.ld X (Rect.unit (s := Rows 4096) ![0, 0] (Rows 4096).size inbAll) = X :=
    funext fun z => congrArg X (Rect.emb_unit_full inbAll z)
  have h := load_rule (Q := Q) defs c a (Rect.unit (s := Rows 4096) ![0, 0] (Rows 4096).size inbAll)
    (View.loadsAt_vmem pos4096) q X k
  rw [e] at h
  exact h

/-- A store of the whole. -/
theorem stAll_rule (a : Ref sig) (x : Vec F (Rows 4096) .f32) (X : Vec F (Rows 4096) .f32)
    (k : PUnit → Prog (TpuEff nD τ sig (Elt F) Λ .tc) α) :
    (owns (c : Thread nD τ) a fullShare X : sProp 𝕄)
      ⊢ iprop((owns (c : Thread nD τ) a fullShare x -∗ wpc defs c (k ⟨⟩) Q) -∗ wpc defs c (stAll a x >>= k) Q) :=
  store_rule defs c a _ _ _ _ X _ (fun f _ => View.read_writes_full a.view f inbAll x []) k

/-- One tile sorted. -/
theorem tileStep_rule (h64 : (Col 64).Iotas .tc 32 [0]) (h32 : (Col 32).Iotas .tc 32 [0]) (src dst : Ref sig)
    {n : Nat} (p : Spots n) (t : Fin n) (up : Bool) (X A : Vec F (Rows 4096) .f32)
    (k : PUnit → Prog (TpuEff nD τ sig (Elt F) Λ .tc) α) :
    (iprop(owns (c : Thread nD τ) src fullShare X ∗ owns (c : Thread nD τ) dst fullShare A) : sProp 𝕄)
      ⊢ iprop((iprop(owns (c : Thread nD τ) src fullShare X ∗ owns (c : Thread nD τ) dst fullShare (tileFn h64 h32 p t up X A))
          -∗ wpc defs c (k ⟨⟩) Q)
        -∗ wpc defs c (tileStep F nD τ Λ h64 h32 src dst p t up >>= k) Q) := by
  unfold tileStep
  simp only [bind_assoc]
  iintro ⟨HX, HA⟩ Hk
  iapply (ld_rule defs c src p t fullShare X _) $$ HX
  iintro HX
  iapply (ld_rule defs c dst p t fullShare A _) $$ HA
  iintro HA
  iapply (st_rule defs c dst p t _ A _) $$ HA
  iintro HA
  iapply Hk
  isplitl [HX]
  · iexact HX
  · iexact HA

/-- One pair of tiles merged. -/
theorem tailStep_rule (M : Masks 64) (a : Ref sig) {n : Nat} (p p' : Spots n) (t : Fin n) (up : Bool)
    (A : Vec F (Rows 4096) .f32) (k : PUnit → Prog (TpuEff nD τ sig (Elt F) Λ .tc) α) :
    (owns (c : Thread nD τ) a fullShare A : sProp 𝕄)
      ⊢ iprop((owns (c : Thread nD τ) a fullShare (tailFn M p p' t up A) -∗ wpc defs c (k ⟨⟩) Q)
        -∗ wpc defs c (tailStep F nD τ Λ M a p p' t up >>= k) Q) := by
  unfold tailStep
  simp only [bind_assoc]
  iintro HA Hk
  iapply (ld_rule defs c a p t fullShare A _) $$ HA
  iintro HA
  iapply (ld_rule defs c a p' t fullShare A _) $$ HA
  iintro HA
  iapply (ld_rule defs c a p t fullShare A _) $$ HA
  iintro HA
  iapply (st_rule defs c a p t _ A _) $$ HA
  iintro HA
  iapply (ld_rule defs c a p' t fullShare _ _) $$ HA
  iintro HA
  iapply (st_rule defs c a p' t _ _ _) $$ HA
  iintro HA
  iapply Hk
  iexact HA

/-- A function applied to the whole scratch. -/
theorem headStep_rule (f : FVec F (Rows 4096) .f32 → FVec F (Rows 4096) .f32) (a : Ref sig)
    (A : Vec F (Rows 4096) .f32) (k : PUnit → Prog (TpuEff nD τ sig (Elt F) Λ .tc) α) :
    (owns (c : Thread nD τ) a fullShare A : sProp 𝕄)
      ⊢ iprop((owns (c : Thread nD τ) a fullShare (same4096 (f A)) -∗ wpc defs c (k ⟨⟩) Q)
        -∗ wpc defs c (headStep F nD τ Λ f a >>= k) Q) := by
  unfold headStep
  simp only [bind_assoc]
  iintro HA Hk
  iapply (ldAll_rule defs c a fullShare A _) $$ HA
  iintro HA
  iapply (ldAll_rule defs c a fullShare A _) $$ HA
  iintro HA
  iapply (stAll_rule defs c a _ A _) $$ HA
  iintro HA
  iapply Hk
  iexact HA

/-- A loop at the head of a program, by an invariant. -/
theorem loop_rule {σ : Type} (L : Scf.Loop 32) (ok : L.OK) (init : σ)
    (body : Fin L.trips → σ → Prog (TpuEff nD τ sig (Elt F) Λ .tc) σ) (I : ℕ → σ → sProp 𝕄) (P : sProp 𝕄)
    (hP : P ⊢ I 0 init) (hbody : ∀ (k : Fin L.trips) (acc : σ), I k.val acc ⊢ wpc defs c (body k acc) (I (k.val + 1)))
    (k : σ → Prog (TpuEff nD τ sig (Elt F) Λ .tc) α) :
    P ⊢ iprop((∀ acc, I L.trips acc -∗ wpc defs c (k acc) Q) -∗ wpc defs c (Scf.Loop.for L ok init body >>= k) Q) :=
  hP.trans (Scf.wp_for_bind frame (wpE defs Variants.none (c : Thread nD τ) none) Set.univ L.lb L.ub L.st ok init body I hbody)

/-- The first loop. -/
theorem sortLoop_rule (h64 : (Col 64).Iotas .tc 32 [0]) (h32 : (Col 32).Iotas .tc 32 [0]) (L : Loop2)
    (a1 a2 a4 a5 : Ref sig) (X Y A B : Vec F (Rows 4096) .f32) (k : Unit → Prog (TpuEff nD τ sig (Elt F) Λ .tc) α) :
    (iprop(owns (c : Thread nD τ) a1 fullShare X ∗ owns (c : Thread nD τ) a2 fullShare Y
        ∗ owns (c : Thread nD τ) a4 fullShare A ∗ owns (c : Thread nD τ) a5 fullShare B) : sProp 𝕄)
      ⊢ iprop((iprop(owns (c : Thread nD τ) a1 fullShare X ∗ owns (c : Thread nD τ) a2 fullShare Y
          ∗ owns (c : Thread nD τ) a4 fullShare (steps L.l.trips (sortTrip h64 h32 L X) L.l.trips A)
          ∗ owns (c : Thread nD τ) a5 fullShare (steps L.l.trips (sortTrip h64 h32 L Y) L.l.trips B))
          -∗ wpc defs c (k ()) Q)
        -∗ wpc defs c (sortLoop F nD τ Λ h64 h32 L a1 a2 a4 a5 >>= k) Q) := by
  unfold sortLoop
  iintro H Hk
  iapply (loop_rule defs c L.l L.ok () _ (fun n _ => iprop(owns (c : Thread nD τ) a1 fullShare X ∗ owns (c : Thread nD τ) a2 fullShare Y
          ∗ owns (c : Thread nD τ) a4 fullShare (steps L.l.trips (sortTrip h64 h32 L X) n A)
          ∗ owns (c : Thread nD τ) a5 fullShare (steps L.l.trips (sortTrip h64 h32 L Y) n B)))
    iprop(owns (c : Thread nD τ) a1 fullShare X ∗ owns (c : Thread nD τ) a2 fullShare Y
        ∗ owns (c : Thread nD τ) a4 fullShare A ∗ owns (c : Thread nD τ) a5 fullShare B) .rfl ?_ k) $$ H
  · intro t _
    rw [steps_succ _ t, steps_succ _ t]
    iintro ⟨HX, HY, HA, HB⟩
    iapply (tileStep_rule defs c h64 h32 a1 a4 L.p t true X _ _) $$ [HX HA]
    · isplitl [HX] <;> iassumption
    iintro ⟨HX, HA⟩
    iapply (tileStep_rule defs c h64 h32 a1 a4 L.p' t false X _ _) $$ [HX HA]
    · isplitl [HX] <;> iassumption
    iintro ⟨HX, HA⟩
    iapply (tileStep_rule defs c h64 h32 a2 a5 L.p t true Y _ _) $$ [HY HB]
    · isplitl [HY] <;> iassumption
    iintro ⟨HY, HB⟩
    iapply (tileStep_rule defs c h64 h32 a2 a5 L.p' t false Y _ _) $$ [HY HB]
    · isplitl [HY] <;> iassumption
    iintro ⟨HY, HB⟩
    iapply le_wp_ret
    isplitl [HX]; · iexact HX
    isplitl [HY]; · iexact HY
    isplitl [HA]; · iexact HA
    iexact HB
  · iintro %_ H
    iapply Hk
    iexact H

/-- A loop of merges. -/
theorem tailLoop_rule (M : Masks 64) (L : Loop4) (a4 a5 : Ref sig) (A B : Vec F (Rows 4096) .f32)
    (k : Unit → Prog (TpuEff nD τ sig (Elt F) Λ .tc) α) :
    (iprop(owns (c : Thread nD τ) a4 fullShare A ∗ owns (c : Thread nD τ) a5 fullShare B) : sProp 𝕄)
      ⊢ iprop((iprop(owns (c : Thread nD τ) a4 fullShare (tailAll M L A) ∗ owns (c : Thread nD τ) a5 fullShare (tailAll M L B))
          -∗ wpc defs c (k ()) Q)
        -∗ wpc defs c (tailLoop F nD τ Λ M L a4 a5 >>= k) Q) := by
  unfold tailLoop
  iintro H Hk
  iapply (loop_rule defs c L.l L.ok () _ (fun n _ => iprop(owns (c : Thread nD τ) a4 fullShare (steps L.l.trips (tailTrip M L) n A)
          ∗ owns (c : Thread nD τ) a5 fullShare (steps L.l.trips (tailTrip M L) n B)))
    iprop(owns (c : Thread nD τ) a4 fullShare A ∗ owns (c : Thread nD τ) a5 fullShare B) .rfl ?_ k) $$ H
  · intro t _
    rw [steps_succ _ t, steps_succ _ t]
    iintro ⟨HA, HB⟩
    iapply (tailStep_rule defs c M a4 L.p L.p' t true _ _) $$ HA
    iintro HA
    iapply (tailStep_rule defs c M a4 L.q L.q' t false _ _) $$ HA
    iintro HA
    iapply (tailStep_rule defs c M a5 L.p L.p' t true _ _) $$ HB
    iintro HB
    iapply (tailStep_rule defs c M a5 L.q L.q' t false _ _) $$ HB
    iintro HB
    iapply le_wp_ret
    isplitl [HA]; · iexact HA
    iexact HB
  · iintro %_ H
    iapply Hk
    iexact H

/-- The last loop. -/
theorem sumLoop_rule (M : Masks 64) (L : Loop2) (a4 a5 : Ref sig) (A B : Vec F (Rows 4096) .f32)
    (k : FVec F ⟨2, ![1, 128]⟩ .f32 → Prog (TpuEff nD τ sig (Elt F) Λ .tc) α) :
    (iprop(owns (c : Thread nD τ) a4 fullShare A ∗ owns (c : Thread nD τ) a5 fullShare B) : sProp 𝕄)
      ⊢ iprop((iprop(owns (c : Thread nD τ) a4 fullShare A ∗ owns (c : Thread nD τ) a5 fullShare B)
          -∗ wpc defs c (k (sumAll M L A B)) Q)
        -∗ wpc defs c (sumLoop F nD τ Λ M L a4 a5 >>= k) Q) := by
  unfold sumLoop
  iintro H Hk
  iapply (loop_rule defs c L.l L.ok (broadcast ⟨2, ![1, 128]⟩ (Scalar.ofBits .f32 0x00000000#32)) _
    (fun n v => iprop(⌜v = steps L.l.trips (sumTrip M L A B) n (broadcast ⟨2, ![1, 128]⟩ (Scalar.ofBits .f32 0x00000000#32))⌝
      ∗ owns (c : Thread nD τ) a4 fullShare A ∗ owns (c : Thread nD τ) a5 fullShare B))
    iprop(owns (c : Thread nD τ) a4 fullShare A ∗ owns (c : Thread nD τ) a5 fullShare B) ?_ ?_ k) $$ H
  · iintro ⟨HA, HB⟩
    isplitr
    · ipureintro; rfl
    isplitl [HA]; · iexact HA
    iexact HB
  · intro t v
    rw [steps_succ _ t]
    iintro ⟨%hv, HA, HB⟩
    subst hv
    iapply (ld_rule defs c a4 L.p t fullShare A _) $$ HA
    iintro HA
    iapply (ld_rule defs c a4 L.p' t fullShare A _) $$ HA
    iintro HA
    iapply (ld_rule defs c a5 L.p t fullShare B _) $$ HB
    iintro HB
    iapply (ld_rule defs c a5 L.p' t fullShare B _) $$ HB
    iintro HB
    iapply le_wp_ret
    isplitr
    · ipureintro; rfl
    isplitl [HA]; · iexact HA
    iexact HB
  · iintro %v ⟨%hv, HA, HB⟩
    subst hv
    iapply Hk
    isplitl [HA]; · iexact HA
    iexact HB

/-- The kernel body: the inputs stay, the block of the result is computed from them, the scratch is left at some contents. -/
theorem kernel_rule (h64 : (Col 64).Iotas .tc 32 [0]) (h32 : (Col 32).Iotas .tc 32 [0]) (L1 : Loop2) (hL : Sweeps L1)
    (L2 L3 L4 L5 L6 : Loop4) (L7 : Loop2) (a1 a2 : Ref sig) (a3 : Memref sig .tc .vmem ⟨3, ![1, 1, 128]⟩ .f32)
    (a4 a5 : Ref sig) (X Y A B : Vec F (Rows 4096) .f32) (Z : Vec F ⟨3, ![1, 1, 128]⟩ .f32) (Q : PUnit → sProp 𝕄) :
    (iprop(owns (c : Thread nD τ) a1 fullShare X ∗ owns (c : Thread nD τ) a2 fullShare Y
        ∗ owns (c : Thread nD τ) a3 fullShare Z
        ∗ owns (c : Thread nD τ) a4 fullShare A ∗ owns (c : Thread nD τ) a5 fullShare B) : sProp 𝕄)
      ⊢ iprop((iprop(owns (c : Thread nD τ) a1 fullShare X ∗ owns (c : Thread nD τ) a2 fullShare Y
          ∗ owns (c : Thread nD τ) a3 fullShare
            (outOf (bitMasks 64 h64) L2 L3 L4 L5 L6 L7 (sorted h64 h32 L1 X) (sorted h64 h32 L1 Y))
          ∗ (∃ A, owns (c : Thread nD τ) a4 fullShare A) ∗ (∃ B, owns (c : Thread nD τ) a5 fullShare B))
          -∗ Q ⟨⟩)
        -∗ wpc defs c (kernelProg F nD τ Λ h64 h32 L1 L2 L3 L4 L5 L6 L7 a1 a2 a3 a4 a5) Q) := by
  unfold kernelProg
  iintro ⟨HX, HY, HZ, HA, HB⟩ Hk
  iapply (sortLoop_rule defs c h64 h32 L1 a1 a2 a4 a5 X Y A B _) $$ [HX HY HA HB]
  · isplitl [HX]; · iexact HX
    isplitl [HY]; · iexact HY
    isplitl [HA]; · iexact HA
    iexact HB
  rw [sorted_eq h64 h32 L1 hL X A, sorted_eq h64 h32 L1 hL Y B]
  iintro ⟨HX, HY, HA, HB⟩
  iapply (tailLoop_rule defs c _ L2 a4 a5 _ _ _) $$ [HA HB]
  · isplitl [HA] <;> iassumption
  iintro ⟨HA, HB⟩
  iapply (headStep_rule defs c _ a4 _ _) $$ HA
  iintro HA
  iapply (headStep_rule defs c _ a5 _ _) $$ HB
  iintro HB
  iapply (tailLoop_rule defs c _ L3 a4 a5 _ _ _) $$ [HA HB]
  · isplitl [HA] <;> iassumption
  iintro ⟨HA, HB⟩
  iapply (headStep_rule defs c _ a4 _ _) $$ HA
  iintro HA
  iapply (headStep_rule defs c _ a5 _ _) $$ HB
  iintro HB
  iapply (tailLoop_rule defs c _ L4 a4 a5 _ _ _) $$ [HA HB]
  · isplitl [HA] <;> iassumption
  iintro ⟨HA, HB⟩
  iapply (headStep_rule defs c _ a4 _ _) $$ HA
  iintro HA
  iapply (headStep_rule defs c _ a5 _ _) $$ HB
  iintro HB
  iapply (tailLoop_rule defs c _ L5 a4 a5 _ _ _) $$ [HA HB]
  · isplitl [HA] <;> iassumption
  iintro ⟨HA, HB⟩
  iapply (headStep_rule defs c _ a4 _ _) $$ HA
  iintro HA
  iapply (headStep_rule defs c _ a5 _ _) $$ HB
  iintro HB
  iapply (tailLoop_rule defs c _ L6 a4 a5 _ _ _) $$ [HA HB]
  · isplitl [HA] <;> iassumption
  iintro ⟨HA, HB⟩
  iapply (headStep_rule defs c _ a4 _ _) $$ HA
  iintro HA
  iapply (headStep_rule defs c _ a5 _ _) $$ HB
  iintro HB
  iapply (sumLoop_rule defs c _ L7 a4 a5 _ _ _) $$ [HA HB]
  · isplitl [HA] <;> iassumption
  iintro ⟨HA, HB⟩
  iapply (load_rule defs c a3 _ _ fullShare Z _) $$ HZ
  iintro HZ
  iapply (store_last defs c a3 _ _ _ _ Z
    (outOf (bitMasks 64 h64) L2 L3 L4 L5 L6 L7 (sorted h64 h32 L1 X) (sorted h64 h32 L1 Y))
    (fun f _ => View.read_writes_full a3.view f inbOut _ []) _) $$ HZ
  iintro HZ
  iapply Hk
  isplitl [HX]; · iexact HX
  isplitl [HY]; · iexact HY
  isplitl [HZ]; · iexact HZ
  isplitl [HA]
  · iexists _; iexact HA
  · iexists _; iexact HB

end Cert.Net

end
-- ==== Proof.KernelIdealProg.lean ====
/-
  The printed kernel body is the program over the named operations.
-/
module

public import proofs.«01_k».proof.Proof.Gen.KernelIdeal.Skeleton
public import proofs.«01_k».proof.Proof.Prog

@[expose] public section

noncomputable section

namespace Cert.KernelIdeal

open Idealize.ShloMosaic Idealize.SL.Sem Cert.Net Facts₀ Facts

variable {F : FTy → Type} [FloatOps F]

/-- The loop of the tile sorts. -/
def loop1 : Loop2 := ⟨k0_t1_loop, k0_t1_ok, ⟨k0_off1, k0_off1_inb⟩, ⟨k0_off2, k0_off2_inb⟩⟩
/-- The merges of the level of 128 rows. -/
def loop2 : Loop4 := ⟨⟨k0_t2_loop, k0_t2_ok, ⟨k0_off3, k0_off3_inb⟩, ⟨k0_off4, k0_off4_inb⟩⟩, ⟨k0_off5, k0_off5_inb⟩, ⟨k0_off6, k0_off6_inb⟩⟩
/-- The merges of the level of 256 rows. -/
def loop3 : Loop4 := ⟨⟨k0_t3_loop, k0_t3_ok, ⟨k0_off7, k0_off7_inb⟩, ⟨k0_off8, k0_off8_inb⟩⟩, ⟨k0_off9, k0_off9_inb⟩, ⟨k0_off10, k0_off10_inb⟩⟩
/-- The merges of the level of 512 rows. -/
def loop4 : Loop4 := ⟨⟨k0_t4_loop, k0_t4_ok, ⟨k0_off11, k0_off11_inb⟩, ⟨k0_off12, k0_off12_inb⟩⟩, ⟨k0_off13, k0_off13_inb⟩, ⟨k0_off14, k0_off14_inb⟩⟩
/-- The merges of the level of 1024 rows. -/
def loop5 : Loop4 := ⟨⟨k0_t5_loop, k0_t5_ok, ⟨k0_off15, k0_off15_inb⟩, ⟨k0_off16, k0_off16_inb⟩⟩, ⟨k0_off17, k0_off17_inb⟩, ⟨k0_off18, k0_off18_inb⟩⟩
/-- The merges of the level of 2048 rows. -/
def loop6 : Loop4 := ⟨⟨k0_t6_loop, k0_t6_ok, ⟨k0_off19, k0_off19_inb⟩, ⟨k0_off20, k0_off20_inb⟩⟩, ⟨k0_off21, k0_off21_inb⟩, ⟨k0_off22, k0_off22_inb⟩⟩
/-- The loop of the sums. -/
def loop7 : Loop2 := ⟨k0_t7_loop, k0_t7_ok, ⟨k0_off23, k0_off23_inb⟩, ⟨k0_off24, k0_off24_inb⟩⟩

/-- The printed kernel body is the program over the named operations. -/
theorem body_eq (i : grid0.Coords) (arg1 : Memref sig .tc .vmem S4096x128 .f32) (harg1 : arg1.IsWhole) (arg2 : Memref sig .tc .vmem S4096x128 .f32) (harg2 : arg2.IsWhole) (arg3 : Memref sig .tc .vmem S1x1x128 .f32) (harg3 : arg3.IsWhole) (arg4 : Memref sig .tc .vmem S4096x128 .f32) (harg4 : arg4.IsWhole) (arg5 : Memref sig .tc .vmem S4096x128 .f32) (harg5 : arg5.IsWhole) :
    cc0__wasserstein_kernel (F := F) i arg1 harg1 arg2 harg2 arg3 harg3 arg4 harg4 arg5 harg5
      = kernelProg F nD τ Λ₀ iota_S64x1_d0_w32 iota_S32x1_d0_w32 loop1 loop2 loop3 loop4 loop5 loop6 loop7 arg1 arg2 arg3 arg4 arg5 := by
  refine eq_loop3 (sortLoop F nD τ Λ₀ iota_S64x1_d0_w32 iota_S32x1_d0_w32 loop1 arg1 arg2 arg4 arg5) _ _ _ _ rfl rfl fun _ => ?_
  refine eq_loop3 (tailLoop F nD τ Λ₀ (bitMasks 64 iota_S64x1_d0_w32) loop2 arg4 arg5) _ _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_loop3 (tailLoop F nD τ Λ₀ (bitMasks 64 iota_S64x1_d0_w32) loop3 arg4 arg5) _ _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_loop3 (tailLoop F nD τ Λ₀ (bitMasks 64 iota_S64x1_d0_w32) loop4 arg4 arg5) _ _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_loop3 (tailLoop F nD τ Λ₀ (bitMasks 64 iota_S64x1_d0_w32) loop5 arg4 arg5) _ _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_loop3 (tailLoop F nD τ Λ₀ (bitMasks 64 iota_S64x1_d0_w32) loop6 arg4 arg5) _ _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_op _ _ _ rfl rfl fun _ => ?_
  refine eq_loop2 (sumLoop F nD τ Λ₀ (bitMasks 64 iota_S64x1_d0_w32) loop7 arg4 arg5) _ _ _ rfl rfl fun _ => ?_
  rfl

end Cert.KernelIdeal

end
-- ==== Proof.KernelIdealFrame.lean ====
/-
  The kernel run over its grid: at every point the body takes the two input blocks to the block of
  the result; the run ends with the arguments unchanged and every semaphore at zero.
-/
module

public import proofs.«01_k».proof.Proof.Gen.KernelIdeal.Frame
public import proofs.«01_k».proof.Proof.KernelIdealProg
public import proofs.«01_k».proof.Proof.Run

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Net Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first loop sweeps the scratch. -/
theorem sweeps1 : Sweeps loop1 := ⟨by decide +kernel, Gen.k0_off1_eq, Gen.k0_off2_eq⟩

/-- The block of the result at a point, from the two input blocks there. -/
def outAt (X Y : Vec F (Rows 4096) .f32) : Vec F ⟨3, ![1, 1, 128]⟩ .f32 :=
  outOf (bitMasks 64 iota_S64x1_d0_w32) loop2 loop3 loop4 loop5 loop6 loop7
    (sorted iota_S64x1_d0_w32 iota_S32x1_d0_w32 loop1 X) (sorted iota_S64x1_d0_w32 iota_S32x1_d0_w32 loop1 Y)

/-- The proof data: the arrays as the region finds them; the inputs stay in their buffers, the result's block is computed from them. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => outAt (Gen.iblk m c 0 t) (Gen.iblk m c 1 t)
    | ⟨n + 3, h⟩ => absurd h (Nat.not_lt.mpr (Nat.le_add_left _ _))
  Φ _ := Pipeline.ΦA spec0 c
  q _ := fullShare
  owed _ := 0

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d)))

/-- What the body returns with. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t))

/-- What the loops leave to the body: the two scratch buffers at some contents and the generator register. -/
theorem phi_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ ∃ r, prngReg c r) := by
  unfold Pipeline.ΦA
  rw [Gen.scopedRest0_eq]
  simp only [owns_whole]
  try rfl

/-- The body at a point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  rw [body_eq]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  simp only [Gen.before0_0_of m (dats m 0 c) rfl (fun _ => rfl), Gen.before0_1_of m (dats m 0 c) rfl (fun _ => rfl)]
  iintro ⟨⟨⟨⟨%A, HA⟩, ⟨%B, HB⟩⟩, Hg⟩, HO, ⟨%_, HX⟩, ⟨%_, HY⟩, ⟨%d, HZ⟩⟩
  iapply (kernel_rule (defs₀ (F := F)) c iota_S64x1_d0_w32 iota_S32x1_d0_w32 loop1 sweeps1 loop2 loop3 loop4 loop5 loop6 loop7
    _ _ _ _ _ (Gen.iblk m c 0 t) (Gen.iblk m c 1 t) A B ((dats m 0 c).before 2 t d) _) $$ [HX HY HZ HA HB]
  · isplitl [HX]; · iexact HX
    isplitl [HY]; · iexact HY
    isplitl [HZ]; · iexact HZ
    isplitl [HA]; · iexact HA
    iexact HB
  iintro ⟨HX, HY, HZ, HA, HB⟩
  isplitl [HA HB Hg]
  · isplitl [HA HB]
    · isplitl [HA]; · iexact HA
      iexact HB
    iexact Hg
  isplitl [HO]; · iexact HO
  isplitl [HX]; · iexact HX
  isplitl [HY]; · iexact HY
  iexact HZ

/-- The body the pipeline calls at a point is the kernel body there. -/
theorem body_row (t : Fin cfg0.N) : defs₀ (F := F) .tc cfg0.body (cfg0.bodyArgs t (cfg0.slots t)) = Gen.bodyAt0 t := by
  unfold defs₀; rw [Defs.onTc_tc]

/-- The body takes what the pipeline hands it at every point to what it must return. -/
theorem body_obligation (c : Dev nD) :
    BodyObligation (dats (F := F) m 0 c) (defs₀ (F := F)) Variants.none () Set.univ (fun _ => false) := fun t => by
  rw [Gen.bigSep_W0, Gen.bigSep_W0, body_row]
  exact triple_restated (sound_body m c t) rfl .rfl fun _ => .rfl

/-- The run: every array and buffer ends as the grid and the host lines leave it, every semaphore at zero. -/
theorem run_main : θ_run defs (onTc (τ := τ) (main (F := F))) (s₀ m ρ)
    (fun r => Pipeline.FramePost cfgs (dats m) 0 (Pipeline.afterTail₀ cfgs (dats m) 0 (Gen.V0 m) [Gen.hostOps1]) r
      ∧ r.2.sem = fun _ => 0) :=
  Pipeline.θ_run_frame_around cfgs (dats m) 0 Gen.launch0 defs₀ Variants.none m ρ main
    (hbody := fun c => (body_obligation m c).loose)
    (hshare := fun c => (dats m 0 c).share_full fun _ => rfl) (howed := fun _ _ => rfl) (V₀ := Gen.V0 m) (opss := [Gen.hostOps1])
    (hsub := Gen.sfx_sub) (hfresh := Gen.sfx_fresh) (hkeep := Gen.sfx_keeps) (hmain := Gen.hmain m Variants.none)
    (hA := fun _ _ => rfl) (hΦ := fun _ _ => rfl)
    (Q' := fun r => Pipeline.FramePost cfgs (dats m) 0 (Pipeline.afterTail₀ cfgs (dats m) 0 (Gen.V0 m) [Gen.hostOps1]) r
      ∧ r.2.sem = fun _ => 0) (hQ' := fun _ h => h)

end Cert.KernelIdeal

end
-- ==== Proof.Frames.lean ====
/-
  The three frames: each program runs to the end, leaves its arguments as they were, and ends with
  every semaphore at zero.
-/
module

public import proofs.«01_k».proof.Defs
public import proofs.«01_k».proof.Proof.Gen.ReferenceIdeal.Run
public import proofs.«01_k».proof.Proof.KernelFrame
public import proofs.«01_k».proof.Proof.KernelIdealFrame
public import Idealize.ShloMosaic.Lib.Quiescent
public import Idealize.ShloMosaic.Lib.Pipeline.Quiescent

@[expose] public section

noncomputable section

namespace Cert.Proof

open Idealize.ShloMosaic Idealize.ShloMosaic.TcCoe Idealize.SL.Sem

/-- The kernel's frame. -/
theorem kernel_frame : Cert.quiescent_Kernel (hKernel := Cert.Kernel.Gen.facts) := fun m g _ =>
  θ_run_with_sems (Cert.Kernel.Gen.frame_of m g (Cert.Kernel.dats m) fun _ _ => rfl) (Cert.Kernel.run_main m g)

/-- The frame of the kernel at the extended reals. -/
theorem kernelIdeal_frame : Cert.quiescent_KernelIdeal (hKernelIdeal := Cert.KernelIdeal.Gen.facts) := fun m g _ =>
  θ_run_with_sems (Cert.KernelIdeal.Gen.frame_of m g (Cert.KernelIdeal.dats m) fun _ _ => rfl) (Cert.KernelIdeal.run_main m g)

/-- The frame of the reference at the extended reals. -/
theorem referenceIdeal_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

end Cert.Proof

end
-- ==== Proof.InputCols.lean ====
/-
  The columns of an argument: its 384 by 3 columns of 4096 entries, numbered row by row.
-/
module

public import Idealize.ShloMosaic.PureOps.Ideal
public import Idealize.ShloMosaic.Lib.ValueIdxCore
public import Idealize.ShloMosaic.Lib.Pipeline.Value

@[expose] public section

noncomputable section

namespace Cert.Net

open Idealize.ShloMosaic

/-- The shape of an argument. -/
abbrev Arg : Shape := ⟨3, ![4096, 384, 3]⟩
/-- The shape of an argument with its columns side by side. -/
abbrev Flat : Shape := ⟨2, ![4096, 1152]⟩

/-- Entry `i` of column `k`; zero outside. -/
def col (x : FVec Ideal Arg .f32) (k i : Nat) : EReal :=
  if h : i < 4096 ∧ k < 1152 then x (ValueIdx.ix3 ⟨i, h.1⟩ ⟨k / 3, by omega⟩ ⟨k % 3, by omega⟩) else 0

/-- An entry of a column. -/
theorem col_apply (x : FVec Ideal Arg .f32) (i : Fin 4096) (a : Fin 384) (b : Fin 3) :
    col x (3 * a.val + b.val) i.val = x (ValueIdx.ix3 i a b) := by
  unfold col
  rw [dif_pos ⟨i.isLt, by omega⟩]
  have e1 : (⟨(3 * a.val + b.val) / 3, by omega⟩ : Fin 384) = a := Fin.ext (by show _ / 3 = _; omega)
  have e2 : (⟨(3 * a.val + b.val) % 3, by omega⟩ : Fin 3) = b := Fin.ext (by show _ % 3 = _; omega)
  rw [e1, e2]

/-- The columns side by side. -/
theorem flat_apply (x : FVec Ideal Arg .f32) (h : Arg.ShapeCasts Flat) (i : Fin 4096) (k : Fin 1152) :
    shapeCast Flat x h (ValueIdx.ix2 i k) = col x k.val i.val := by
  unfold col
  rw [dif_pos ⟨i.isLt, k.isLt⟩]
  refine shapeCast_apply x h _ _ ?_
  rw [Shape.rowMajor_val_three, Shape.rowMajor_val_two]
  show (i.val * 384 + k.val / 3) * 3 + k.val % 3 = i.val * 1152 + k.val
  omega

end Cert.Net

end
-- ==== Proof.Exchange.lean ====
/-
  Compare-exchange steps on the entries of a column, a column being a function of the row number,
  and how a run of them reads through a change of the row numbers that keeps the bits in question.
-/
module

public import Mathlib.Order.Lattice
public import Mathlib.Order.Defs.LinearOrder
public import Mathlib.Data.Nat.Bitwise

@[expose] public section

namespace Cert.Net

variable {α : Type} [LinearOrder α]

/-- One compare-exchange at distance `2^s`: the row with bit `s` clear gets the lesser value where
    `d` holds of it, else the greater; its partner gets the other. -/
def cx (s : Nat) (d : Nat → Bool) (f : Nat → α) (i : Nat) : α :=
  if i.testBit s = !d i then min (f i) (f (i ^^^ 2 ^ s)) else max (f i) (f (i ^^^ 2 ^ s))

/-- The compare-exchanges at the distances of a list, in order. -/
def run (l : List Nat) (d : Nat → Bool) (f : Nat → α) : Nat → α := l.foldl (fun f s => cx s d f) f

omit [LinearOrder α] in
theorem run_nil [LinearOrder α] (d : Nat → Bool) (f : Nat → α) : run [] d f = f := rfl
theorem run_cons (s : Nat) (l : List Nat) (d : Nat → Bool) (f : Nat → α) : run (s :: l) d f = run l d (cx s d f) := rfl
/-- Two lists of distances, one after the other. -/
theorem run_append (l l' : List Nat) (d : Nat → Bool) (f : Nat → α) : run (l ++ l') d f = run l' d (run l d f) :=
  List.foldl_append

/-- A step read through a map of the row numbers that keeps the step's bit. -/
theorem cx_comp {s : Nat} {d d' : Nat → Bool} {e : Nat → Nat} (f : Nat → α) (i : Nat) (hx : e (i ^^^ 2 ^ s) = e i ^^^ 2 ^ s)
    (hb : (e i).testBit s = i.testBit s) (hd : d (e i) = d' i) : cx s d f (e i) = cx s d' (f ∘ e) i := by
  unfold cx
  rw [hb, hd]
  simp only [Function.comp, hx]

/-- A run read through a map of the row numbers that keeps its bits. -/
theorem run_comp {l : List Nat} {d d' : Nat → Bool} {e : Nat → Nat} (hx : ∀ s ∈ l, ∀ i, e (i ^^^ 2 ^ s) = e i ^^^ 2 ^ s)
    (hb : ∀ s ∈ l, ∀ i, (e i).testBit s = i.testBit s) (hd : ∀ i, d (e i) = d' i) (f : Nat → α) (i : Nat) :
    run l d f (e i) = run l d' (f ∘ e) i := by
  induction l generalizing f with
  | nil => rfl
  | cons s l ih =>
    rw [run_cons, run_cons, ih (fun t ht => hx t (List.mem_cons_of_mem _ ht)) (fun t ht => hb t (List.mem_cons_of_mem _ ht))]
    congr 1
    funext j
    exact cx_comp f j (hx s List.mem_cons_self j) (hb s List.mem_cons_self j) (hd j)

/-! Maps of the row numbers. `lo p i` and `hi p i` are the row of the first and of the second half of
its pair of blocks of `2^p` rows to which row `i` of the joined halves belongs; `half p` goes back. -/

/-- Row `i` of the joined first blocks, in the whole. -/
def lo (p i : Nat) : Nat := 2 ^ (p + 1) * (i / 2 ^ p) + i % 2 ^ p
/-- Row `i` of the joined second blocks, in the whole. -/
def hi (p i : Nat) : Nat := 2 ^ (p + 1) * (i / 2 ^ p) + (2 ^ p + i % 2 ^ p)
/-- A row of the whole, in its half. -/
def half (p i : Nat) : Nat := 2 ^ p * (i / 2 ^ (p + 1)) + i % 2 ^ p
/-- Row `i` of the window that starts at block `a` of `2^p` rows. -/
def win (p a i : Nat) : Nat := 2 ^ p * (a + i / 2 ^ p) + i % 2 ^ p

theorem mod_lt_pow (p i : Nat) : i % 2 ^ p < 2 ^ p := Nat.mod_lt _ (Nat.two_pow_pos p)

theorem lo_testBit (p i j : Nat) : (lo p i).testBit j = if j < p then i.testBit j else if j = p then false else i.testBit (j - 1) := by
  unfold lo
  rw [Nat.testBit_two_pow_mul_add _ (by have := mod_lt_pow p i; rw [Nat.pow_succ]; omega)]
  by_cases h : j < p
  · rw [if_pos (by omega), if_pos h, Nat.testBit_mod_two_pow]; simp [h]
  · rw [if_neg h]
    by_cases h' : j = p
    · rw [if_pos (by omega), if_pos h', Nat.testBit_mod_two_pow]; simp [h]
    · rw [if_neg (by omega), if_neg h', Nat.testBit_div_two_pow]
      congr 1; omega

theorem hi_testBit (p i j : Nat) : (hi p i).testBit j = if j < p then i.testBit j else if j = p then true else i.testBit (j - 1) := by
  unfold hi
  have e : 2 ^ p + i % 2 ^ p = 2 ^ p * 1 + i % 2 ^ p := by rw [Nat.mul_one]
  rw [Nat.testBit_two_pow_mul_add _ (by have := mod_lt_pow p i; rw [Nat.pow_succ]; omega), e,
    Nat.testBit_two_pow_mul_add _ (mod_lt_pow p i)]
  by_cases h : j < p
  · rw [if_pos (by omega), if_pos h, if_pos h, Nat.testBit_mod_two_pow]; simp [h]
  · rw [if_neg h, if_neg h]
    by_cases h' : j = p
    · subst h'; simp
    · rw [if_neg (by omega), if_neg h', Nat.testBit_div_two_pow]
      congr 1; omega

theorem half_testBit (p i j : Nat) : (half p i).testBit j = if j < p then i.testBit j else i.testBit (j + 1) := by
  unfold half
  rw [Nat.testBit_two_pow_mul_add _ (mod_lt_pow p i)]
  by_cases h : j < p
  · rw [if_pos h, if_pos h, Nat.testBit_mod_two_pow]; simp [h]
  · rw [if_neg h, if_neg h, Nat.testBit_div_two_pow]
    congr 1; omega

theorem win_testBit (p a i j : Nat) (hj : j < p) : (win p a i).testBit j = i.testBit j := by
  unfold win
  rw [Nat.testBit_two_pow_mul_add _ (mod_lt_pow p i), if_pos hj, Nat.testBit_mod_two_pow]
  simp [hj]

/-- A bit of the row's partner. -/
theorem testBit_partner (i s j : Nat) : (i ^^^ 2 ^ s).testBit j = ((i.testBit j) ^^ decide (s = j)) := by
  rw [Nat.testBit_xor, Nat.testBit_two_pow]

theorem lo_xor {p s : Nat} (hs : s < p) (i : Nat) : lo p (i ^^^ 2 ^ s) = lo p i ^^^ 2 ^ s := by
  apply Nat.eq_of_testBit_eq
  intro j
  simp only [lo_testBit, testBit_partner]
  split
  · rfl
  · split
    · have : s ≠ j := by omega
      simp [this]
    · have h1 : s ≠ j := by omega
      have h2 : s ≠ j - 1 := by omega
      simp [h1, h2]

theorem hi_xor {p s : Nat} (hs : s < p) (i : Nat) : hi p (i ^^^ 2 ^ s) = hi p i ^^^ 2 ^ s := by
  apply Nat.eq_of_testBit_eq
  intro j
  simp only [hi_testBit, testBit_partner]
  split
  · rfl
  · split
    · have : s ≠ j := by omega
      simp [this]
    · have h1 : s ≠ j := by omega
      have h2 : s ≠ j - 1 := by omega
      simp [h1, h2]

/-- The partner lies in the same block of `2^p` rows. -/
theorem xor_div {p s : Nat} (hs : s < p) (i : Nat) : (i ^^^ 2 ^ s) / 2 ^ p = i / 2 ^ p := by
  apply Nat.eq_of_testBit_eq
  intro j
  rw [Nat.testBit_div_two_pow, Nat.testBit_div_two_pow, testBit_partner]
  have : s ≠ j + p := by omega
  simp [this]

theorem xor_mod {p s : Nat} (hs : s < p) (i : Nat) : (i ^^^ 2 ^ s) % 2 ^ p = (i % 2 ^ p) ^^^ 2 ^ s := by
  apply Nat.eq_of_testBit_eq
  intro j
  rw [Nat.testBit_mod_two_pow, testBit_partner, testBit_partner, Nat.testBit_mod_two_pow]
  by_cases h : j < p
  · simp [h]
  · have : s ≠ j := by omega
    simp [h, this]

theorem mul_add_xor {p s : Nat} (hs : s < p) (a r : Nat) (hr : r < 2 ^ p) : 2 ^ p * a + (r ^^^ 2 ^ s) = (2 ^ p * a + r) ^^^ 2 ^ s := by
  have hr' : r ^^^ 2 ^ s < 2 ^ p := Nat.xor_lt_two_pow hr (Nat.pow_lt_pow_right (by decide) hs)
  apply Nat.eq_of_testBit_eq
  intro j
  rw [testBit_partner, Nat.testBit_two_pow_mul_add _ hr, Nat.testBit_two_pow_mul_add _ hr', testBit_partner]
  split
  · rfl
  · have : s ≠ j := by omega
    simp [this]

theorem win_xor {p s : Nat} (hs : s < p) (a i : Nat) : win p a (i ^^^ 2 ^ s) = win p a i ^^^ 2 ^ s := by
  unfold win
  rw [xor_div hs, xor_mod hs, mul_add_xor hs _ _ (mod_lt_pow p i)]

theorem win_of_lt {p i : Nat} (a : Nat) (hi : i < 2 ^ p) : win p a i = 2 ^ p * a + i := by
  unfold win
  rw [Nat.div_eq_of_lt hi, Nat.mod_eq_of_lt hi, Nat.add_zero]

/-- The partner is below the same power of two. -/
theorem xor_lt {p s m i : Nat} (hs : s < p) (hm : 2 ^ p ∣ m) (hi : i < m) : i ^^^ 2 ^ s < m := by
  obtain ⟨k, rfl⟩ := hm
  have h1 : i / 2 ^ p < k := Nat.div_lt_of_lt_mul hi
  rw [← xor_div hs] at h1
  rwa [Nat.div_lt_iff_lt_mul (Nat.two_pow_pos p), Nat.mul_comm] at h1

theorem lo_half {p i : Nat} (h : i.testBit p = false) : lo p (half p i) = i := by
  apply Nat.eq_of_testBit_eq
  intro j
  rw [lo_testBit, half_testBit, half_testBit]
  by_cases h1 : j < p
  · simp [h1]
  · by_cases h2 : j = p
    · subst h2; simp [h]
    · have h3 : ¬ j - 1 < p := by omega
      have h4 : j - 1 + 1 = j := by omega
      simp [h1, h2, h3, h4]

theorem hi_half {p i : Nat} (h : i.testBit p = true) : hi p (half p i) = i := by
  apply Nat.eq_of_testBit_eq
  intro j
  rw [hi_testBit, half_testBit, half_testBit]
  by_cases h1 : j < p
  · simp [h1]
  · by_cases h2 : j = p
    · subst h2; simp [h]
    · have h3 : ¬ j - 1 < p := by omega
      have h4 : j - 1 + 1 = j := by omega
      simp [h1, h2, h3, h4]

/-- The row with the bit clear has its partner `2^s` further on. -/
theorem xor_of_clear {s i : Nat} (h : i.testBit s = false) : i ^^^ 2 ^ s = i + 2 ^ s := by
  have e : i = 2 ^ (s + 1) * (i / 2 ^ (s + 1)) + i % 2 ^ (s + 1) := (Nat.div_add_mod _ _).symm
  have hs : i % 2 ^ (s + 1) < 2 ^ s := by
    apply Nat.lt_pow_two_of_testBit
    intro j hj
    rw [Nat.testBit_mod_two_pow]
    by_cases hj' : j = s
    · subst hj'; simp [h]
    · simp; omega
  have e2 : (i % 2 ^ (s + 1)) ^^^ 2 ^ s = 2 ^ s + i % 2 ^ (s + 1) := by
    apply Nat.eq_of_testBit_eq
    intro j
    rw [testBit_partner]
    have e3 : 2 ^ s + i % 2 ^ (s + 1) = 2 ^ s * 1 + i % 2 ^ (s + 1) := by rw [Nat.mul_one]
    rw [e3, Nat.testBit_two_pow_mul_add _ hs]
    by_cases hj : j < s
    · have : s ≠ j := by omega
      simp [hj, this]
    · rw [if_neg hj, Nat.testBit_lt_two_pow (Nat.lt_of_lt_of_le hs (Nat.pow_le_pow_right (by decide) (by omega)))]
      simp only [Bool.false_xor]
      by_cases hj' : s = j
      · subst hj'; simp
      · rw [Nat.testBit_lt_two_pow (i := j - s) (Nat.one_lt_two_pow (by omega))]
        simp [hj']
  have := mul_add_xor (p := s + 1) (Nat.lt_succ_self s) (i / 2 ^ (s + 1)) _ (mod_lt_pow (s + 1) i)
  rw [← e, e2] at this
  omega

/-- The row with the bit set has its partner `2^s` before. -/
theorem xor_of_set {s i : Nat} (h : i.testBit s = true) : 2 ^ s ≤ i ∧ i ^^^ 2 ^ s = i - 2 ^ s := by
  have h1 : (i ^^^ 2 ^ s).testBit s = false := by rw [testBit_partner, h]; simp
  have h2 := xor_of_clear h1
  rw [Nat.xor_assoc, Nat.xor_self, Nat.xor_zero] at h2
  omega

end Cert.Net
-- ==== Proof.Index.lean ====
/-
  The kernel's rearrangements of rows read at an index: rows as blocks of rows and back, the blocks
  of a pair, rotations, masks.
-/
module

public import Idealize.ShloMosaic.Lib.ValueIdxCore
public import Idealize.ShloMosaic.Lib.Pipeline.Value
public import proofs.«01_k».proof.Proof.Ops

@[expose] public section

noncomputable section

namespace Cert.Net

open Idealize.ShloMosaic
open Idealize.ShloMosaic.ValueIdx (ix1 ix2 ix3 ix4 eq_ix1 eq_ix2 eq_ix3 eq_ix4)

section cast

variable {α : Type}

theorem pos2 {a b : Nat} (i : Fin a) (j : Fin b) : ((⟨2, ![a, b]⟩ : Shape).rowMajor (ix2 i j) : Nat) = i.val * b + j.val :=
  Shape.rowMajor_val_two _
theorem pos3 {a b c : Nat} (i : Fin a) (j : Fin b) (k : Fin c) :
    ((⟨3, ![a, b, c]⟩ : Shape).rowMajor (ix3 i j k) : Nat) = (i.val * b + j.val) * c + k.val :=
  Shape.rowMajor_val_three _
theorem pos4 {a b c d : Nat} (i : Fin a) (j : Fin b) (k : Fin c) (l : Fin d) :
    ((⟨4, ![a, b, c, d]⟩ : Shape).rowMajor (ix4 i j k l) : Nat) = ((i.val * b + j.val) * c + k.val) * d + l.val :=
  Shape.rowMajor_val_four _

/-- The row at place `(a, b, r)` of groups of blocks. -/
theorem row_lt {m g t j a b r : Nat} (h : g * t * j = m) (ha : a < g) (hb : b < t) (hr : r < j) : (a * t + b) * j + r < m := by
  subst h
  have h1 : a * t + b + 1 ≤ g * t := by
    have := Nat.mul_le_mul_right t (Nat.succ_le_of_lt ha)
    rw [Nat.succ_mul] at this
    omega
  have h2 := Nat.mul_le_mul_right j h1
  rw [Nat.add_mul, Nat.one_mul] at h2
  omega

/-- Rows as groups of blocks, at a place. -/
theorem cast_rows_blocks {m g t j : Nat} (h : g * t * j = m) (x : (Rows m).Idx → α) (hs : (Rows m).ShapeCasts (Blocks g t j))
    (a : Fin g) (b : Fin t) (r : Fin j) (c : Fin 128) :
    shapeCast (Blocks g t j) x hs (ix4 a b r c)
      = x (ix2 ⟨(a.val * t + b.val) * j + r.val, row_lt h a.isLt b.isLt r.isLt⟩ c) := by
  refine congrArg x (Shape.reshapeEquiv_eq_of_rowMajor _ ?_)
  rw [pos2, pos4]

/-- Groups of blocks as rows, at a row. -/
theorem cast_blocks_rows {m g t j : Nat} (x : (Blocks g t j).Idx → α) (hs : (Blocks g t j).ShapeCasts (Rows m))
    (i : Fin m) (c : Fin 128) (a : Fin g) (b : Fin t) (r : Fin j) (e : i.val = (a.val * t + b.val) * j + r.val) :
    shapeCast (Rows m) x hs (ix2 i c) = x (ix4 a b r c) := by
  refine congrArg x (Shape.reshapeEquiv_eq_of_rowMajor _ ?_)
  rw [pos2, pos4, e]

/-- The unit block axis dropped, at a place. -/
theorem cast_blocks_blk {g j : Nat} (x : (Blocks g 1 j).Idx → α) (hs : (Blocks g 1 j).ShapeCasts (Blk g j))
    (a : Fin g) (r : Fin j) (c : Fin 128) : shapeCast (Blk g j) x hs (ix3 a r c) = x (ix4 a 0 r c) := by
  refine congrArg x (Shape.reshapeEquiv_eq_of_rowMajor _ ?_)
  rw [pos3, pos4]
  simp

/-- The unit block axis added, at a place. -/
theorem cast_blk_blocks {g j : Nat} (x : (Blk g j).Idx → α) (hs : (Blk g j).ShapeCasts (Blocks g 1 j))
    (a : Fin g) (b : Fin 1) (r : Fin j) (c : Fin 128) : shapeCast (Blocks g 1 j) x hs (ix4 a b r c) = x (ix3 a r c) := by
  refine congrArg x (Shape.reshapeEquiv_eq_of_rowMajor _ ?_)
  rw [pos3, pos4]
  simp

/-- Blocks as rows, at a row. -/
theorem cast_blk_rows {m g j : Nat} (x : (Blk g j).Idx → α) (hs : (Blk g j).ShapeCasts (Rows m))
    (i : Fin m) (c : Fin 128) (a : Fin g) (r : Fin j) (e : i.val = a.val * j + r.val) :
    shapeCast (Rows m) x hs (ix2 i c) = x (ix3 a r c) := by
  refine congrArg x (Shape.reshapeEquiv_eq_of_rowMajor _ ?_)
  rw [pos2, pos3, e]

/-- Two blocks put side by side, at a place. -/
theorem pair_apply {g j : Nat} (x y : (Blocks g 1 j).Idx → α) (h : Shape.Concatenates [Blocks g 1 j, Blocks g 1 j] (Blocks g 2 j) 1)
    (a : Fin g) (b : Fin 2) (r : Fin j) (c : Fin 128) :
    concatenate (Blocks g 2 j) 1 [⟨Blocks g 1 j, x⟩, ⟨Blocks g 1 j, y⟩] h (ix4 a b r c)
      = if b.val = 0 then x (ix4 a 0 r c) else y (ix4 a 0 r c) := by
  split
  · next hb =>
    refine concatenate_pair_apply_left _ x y h _ rfl _ fun d => ?_
    match d with
    | ⟨0, _⟩ => rfl
    | ⟨1, _⟩ => exact hb.symm
    | ⟨2, _⟩ => rfl
    | ⟨3, _⟩ => rfl
  · next hb =>
    refine concatenate_pair_apply_right _ x y h _ rfl rfl _ (fun d hd => ?_) ?_
    · match d with
      | ⟨0, _⟩ => rfl
      | ⟨1, _⟩ => exact absurd rfl hd
      | ⟨2, _⟩ => rfl
      | ⟨3, _⟩ => rfl
    · show 0 + 1 = b.val
      omega

/-- Two runs of rows one after the other, at a row. -/
theorem rows_apply {m a b : Nat} (x : (Rows a).Idx → α) (y : (Rows b).Idx → α) (h : Shape.Concatenates [Rows a, Rows b] (Rows m) 0)
    (hm : a + b = m) (i : Fin m) (c : Fin 128) :
    concatenate (Rows m) 0 [⟨Rows a, x⟩, ⟨Rows b, y⟩] h (ix2 i c)
      = if hi : i.val < a then x (ix2 ⟨i.val, hi⟩ c) else y (ix2 ⟨i.val - a, by omega⟩ c) := by
  split
  · next hi =>
    refine concatenate_pair_apply_left _ x y h _ rfl _ fun d => ?_
    match d with
    | ⟨0, _⟩ => rfl
    | ⟨1, _⟩ => rfl
  · next hi =>
    refine concatenate_pair_apply_right _ x y h _ rfl rfl _ (fun d hd => ?_) ?_
    · match d with
      | ⟨0, _⟩ => exact absurd rfl hd
      | ⟨1, _⟩ => rfl
    · show (i.val - a) + a = i.val
      omega

/-- The rows from `o` on, at a row. -/
theorem slice_apply {m n o : Nat} (x : (Rows m).Idx → α) (h : (Rows m).Slices ![o, 0] (Rows n)) (hn : o + n ≤ m)
    (i : Fin n) (c : Fin 128) : extractStridedSlice (Rows n) ![o, 0] x h (ix2 i c) = x (ix2 ⟨o + i.val, by omega⟩ c) := by
  refine extractStridedSlice_apply _ x h _ _ fun d => ?_
  match d with
  | ⟨0, _⟩ => rfl
  | ⟨1, _⟩ => exact (Nat.zero_add _).symm

/-- A block of every pair, at a place. -/
theorem slice_blk {g j o : Nat} (ho : o < 2) (x : (Blocks g 2 j).Idx → α) (h : (Blocks g 2 j).Slices ![0, o, 0, 0] (Blocks g 1 j))
    (a : Fin g) (r : Fin j) (c : Fin 128) : extractStridedSlice (Blocks g 1 j) ![0, o, 0, 0] x h (ix4 a 0 r c) = x (ix4 a ⟨o, ho⟩ r c) := by
  refine extractStridedSlice_apply _ x h _ _ fun d => ?_
  match d with
  | ⟨0, _⟩ => exact (Nat.zero_add _).symm
  | ⟨1, _⟩ => rfl
  | ⟨2, _⟩ => exact (Nat.zero_add _).symm
  | ⟨3, _⟩ => exact (Nat.zero_add _).symm

end cast

variable {F : FTy → Type} [FloatOps F]

/-- The first block of every pair, at a place. -/
theorem firstBlk_apply {m g j : Nat} (h : g * 2 * j = m) (x : FVec F (Rows m) .f32) (a : Fin g) (r : Fin j) (c : Fin 128) :
    firstBlk m g j h x (ix3 a r c) = x (ix2 ⟨(a.val * 2 + 0) * j + r.val, row_lt h a.isLt (by decide) r.isLt⟩ c) := by
  unfold firstBlk
  exact (cast_blocks_blk _ _ a r c).trans ((slice_blk (o := 0) (by decide) _ _ a r c).trans (cast_rows_blocks h _ _ a 0 r c))

/-- The second block of every pair, at a place. -/
theorem secondBlk_apply {m g j : Nat} (h : g * 2 * j = m) (x : FVec F (Rows m) .f32) (a : Fin g) (r : Fin j) (c : Fin 128) :
    secondBlk m g j h x (ix3 a r c) = x (ix2 ⟨(a.val * 2 + 1) * j + r.val, row_lt h a.isLt (by decide) r.isLt⟩ c) := by
  unfold secondBlk
  exact (cast_blocks_blk _ _ a r c).trans ((slice_blk (o := 1) (by decide) _ _ a r c).trans (cast_rows_blocks h _ _ a 1 r c))

/-- A mask over the columns, at a row. -/
theorem spread_apply {m : Nat} (b : IVec (Col m) 1) (i : Fin m) (c : Fin 128) : spread m b (ix2 i c) = b (ix2 i 0) := by
  unfold spread
  rw [broadcastTo_apply _ _ _ (ix2 i (0 : Fin 1) : (Col m).Idx) ?_]
  · exact congrArg b (Shape.reshapeEquiv_self _ _)
  · intro d
    match d with
    | ⟨0, _⟩ =>
      show i.val = if m = 1 then 0 else i.val
      split
      · have := i.isLt; omega
      · rfl
    | ⟨1, _⟩ => rfl

/-- The rotation that brings row `i + j` to row `i`, at a row. -/
theorem shiftUp_apply {m n j : Nat} (h : n + j = m) (x : FVec F (Rows m) .f32) (i : Fin m) (c : Fin 128) (hi : i.val + j < m) :
    shiftUp m n j h x (ix2 i c) = x (ix2 ⟨i.val + j, hi⟩ c) := by
  unfold shiftUp
  rw [rows_apply _ _ _ h, dif_pos (by omega), slice_apply _ _ (by omega)]
  congr 2
  exact Fin.ext (Nat.add_comm _ _)

/-- The rotation that brings row `i - j` to row `i`, at a row. -/
theorem shiftDown_apply {m n j : Nat} (h : n + j = m) (x : FVec F (Rows m) .f32) (i : Fin m) (c : Fin 128) (hi : j ≤ i.val) :
    shiftDown m n j h x (ix2 i c) = x (ix2 ⟨i.val - j, by omega⟩ c) := by
  unfold shiftDown
  rw [rows_apply _ _ _ (by omega), dif_neg (by omega), slice_apply _ _ (by omega)]
  congr 2
  exact Fin.ext (Nat.zero_add _)

end Cert.Net

end
-- ==== Proof.Column.lean ====
/-
  The kernel's exchanges on one column of the extended reals: each is a run of compare-exchange
  steps on the entries.
-/
module

public import proofs.«01_k».proof.Proof.Exchange
public import proofs.«01_k».proof.Proof.Index

@[expose] public section

noncomputable section

namespace Cert.Net

open Idealize.ShloMosaic
open Idealize.ShloMosaic.ValueIdx (ix1 ix2 ix3 ix4 eq_ix1 eq_ix2 eq_ix3 eq_ix4)

/-- Column `c` of `x` has the entries of `f`. -/
def Rep (m : Nat) (x : FVec Ideal (Rows m) .f32) (c : Fin 128) (f : Nat → EReal) : Prop :=
  ∀ (i : Nat) (h : i < m), x (ix2 ⟨i, h⟩ c) = f i

/-- The operation `G` is the run over the distances `l`, in every column. -/
def Runs (m : Nat) (G : FVec Ideal (Rows m) .f32 → FVec Ideal (Rows m) .f32) (l : List Nat) (d : Nat → Bool) : Prop :=
  ∀ (c : Fin 128) (x : FVec Ideal (Rows m) .f32) (f : Nat → EReal), Rep m x c f → Rep m (G x) c (run l d f)

/-- One run after another. -/
theorem Runs.comp {m : Nat} {G H : FVec Ideal (Rows m) .f32 → FVec Ideal (Rows m) .f32} {l l' : List Nat} {d : Nat → Bool}
    (hG : Runs m G l d) (hH : Runs m H l' d) : Runs m (fun x => H (G x)) (l ++ l') d := fun c x f h => by
  rw [run_append]
  exact hH c _ _ (hG c x f h)

/-- Bit `s` of a number, by division. -/
theorem testBit_div (i s : Nat) : i.testBit s = decide (i / 2 ^ s % 2 = 1) := Nat.testBit_eq_decide_div_mod_eq

/-- The exchange of the blocks of every pair. -/
theorem runs_blocks {m g j s : Nat} (h : g * 2 * j = m) (hj : j = 2 ^ s) (up : Bool) :
    Runs m (exchangeBlocks m g j h up) [s] (fun _ => up) := fun c x f hx i hi => by
  have hj0 : 0 < j := by rw [hj]; exact Nat.two_pow_pos s
  have ha : i / j / 2 < g := by
    rw [Nat.div_div_eq_div_mul, Nat.div_lt_iff_lt_mul (by omega), Nat.mul_comm j 2, ← Nat.mul_assoc, h]; exact hi
  have hr : i % j < j := Nat.mod_lt _ hj0
  have hb : i / j % 2 < 2 := Nat.mod_lt _ (by decide)
  have e1 : j * (i / j) + i % j = i := Nat.div_add_mod _ _
  have e2 : 2 * (i / j / 2) + i / j % 2 = i / j := Nat.div_add_mod _ _
  have ei : i = ((i / j / 2) * 2 + i / j % 2) * j + i % j := by
    rw [Nat.mul_comm (i / j / 2) 2, e2, Nat.mul_comm]; exact e1.symm
  have hF : firstBlk m g j h x (ix3 ⟨i / j / 2, ha⟩ ⟨i % j, hr⟩ c) = f ((i / j / 2 * 2 + 0) * j + i % j) :=
    (firstBlk_apply h x _ _ c).trans (hx _ _)
  have hS : secondBlk m g j h x (ix3 ⟨i / j / 2, ha⟩ ⟨i % j, hr⟩ c) = f ((i / j / 2 * 2 + 1) * j + i % j) :=
    (secondBlk_apply h x _ _ c).trans (hx _ _)
  unfold exchangeBlocks
  rw [cast_blocks_rows _ _ ⟨i, hi⟩ c ⟨i / j / 2, ha⟩ ⟨i / j % 2, hb⟩ ⟨i % j, hr⟩ ei, pair_apply]
  show _ = cx s (fun _ => up) f i
  unfold cx
  have ht := testBit_div i s
  rw [← hj] at ht
  rcases Nat.mod_two_eq_zero_or_one (i / j) with h0 | h0
  · have hc : i.testBit s = false := by rw [ht, h0]; rfl
    have e3 : (i / j / 2 * 2 + 0) * j + i % j = i := by rw [h0] at ei; exact ei.symm
    have e4 : (i / j / 2 * 2 + 1) * j + i % j = i + j := by
      rw [Nat.add_zero] at e3
      rw [Nat.add_mul, Nat.one_mul, Nat.add_right_comm, e3]
    rw [e3] at hF
    rw [e4] at hS
    rw [if_pos h0, hc, xor_of_clear hc, ← hj]
    cases up
    · simp only [cond_false, cast_blk_blocks]
      show max _ _ = _
      rw [hF, hS]; rfl
    · simp only [cond_true, cast_blk_blocks]
      show min _ _ = _
      rw [hF, hS]; rfl
  · have hc : i.testBit s = true := by rw [ht, h0]; rfl
    have e4 : (i / j / 2 * 2 + 1) * j + i % j = i := by rw [h0] at ei; exact ei.symm
    have e3 : (i / j / 2 * 2 + 0) * j + i % j = i - j := by
      rw [Nat.add_mul, Nat.one_mul, Nat.add_right_comm] at e4
      rw [Nat.add_zero]
      exact Nat.eq_sub_of_add_eq e4
    rw [e3] at hF
    rw [e4] at hS
    rw [if_neg (show ¬ i / j % 2 = 0 by omega), hc, (xor_of_set hc).2, ← hj]
    cases up
    · simp only [cond_false, cast_blk_blocks]
      show min _ _ = _
      rw [hF, hS, min_comm]; rfl
    · simp only [cond_true, cast_blk_blocks]
      show max _ _ = _
      rw [hF, hS, max_comm]; rfl

/-- The mask `b` marks the rows with bit `s` set. -/
def Marks (m : Nat) (b : IVec (Col m) 1) (s : Nat) : Prop :=
  ∀ (i : Nat) (h : i < m), b (ix2 ⟨i, h⟩ 0) = BitVec.ofBool (i.testBit s)

/-- A choice by a mask, at a row. -/
theorem select_spread {m : Nat} (b : IVec (Col m) 1) (x y : FVec Ideal (Rows m) .f32) (i : Nat) (h : i < m) (c : Fin 128) (t : Bool)
    (ht : b (ix2 ⟨i, h⟩ 0) = BitVec.ofBool t) :
    select (spread m b) x y (ix2 ⟨i, h⟩ c) = if t then x (ix2 ⟨i, h⟩ c) else y (ix2 ⟨i, h⟩ c) := by
  rw [ValueIdx.select_apply, spread_apply, ht]
  cases t <;> rfl

/-- The rotations at a row and its partner. -/
theorem shift_partner {m n j s : Nat} (h : n + j = m) (hj : j = 2 ^ s) (hm : 2 ^ (s + 1) ∣ m) {x : FVec Ideal (Rows m) .f32}
    {c : Fin 128} {f : Nat → EReal} (hx : Rep m x c f) (i : Nat) (hi : i < m) :
    (i.testBit s = true → shiftDown m n j h x (ix2 ⟨i, hi⟩ c) = f (i ^^^ 2 ^ s))
      ∧ (i.testBit s = false → shiftUp m n j h x (ix2 ⟨i, hi⟩ c) = f (i ^^^ 2 ^ s)) := by
  constructor
  · intro hc
    have h2 := xor_of_set hc
    rw [shiftDown_apply h x ⟨i, hi⟩ c (by rw [hj]; exact h2.1)]
    exact (hx _ _).trans (congrArg f (by rw [hj]; exact h2.2.symm))
  · intro hc
    have h2 := xor_of_clear hc
    have h3 := xor_lt (Nat.lt_succ_self s) hm hi
    rw [shiftUp_apply h x ⟨i, hi⟩ c (by rw [hj, ← h2]; exact h3)]
    exact (hx _ _).trans (congrArg f (by rw [hj]; exact h2.symm))

/-- The exchange by rotations. -/
theorem runs_rot {m n j s : Nat} (h : n + j = m) (hj : j = 2 ^ s) (hm : 2 ^ (s + 1) ∣ m) (up : Bool) {b : IVec (Col m) 1}
    (hb : Marks m b s) : Runs m (exchangeRot m n j h up b) [s] (fun _ => up) := fun c x f hx i hi => by
  have hp := shift_partner h hj hm hx i hi
  unfold exchangeRot
  rw [select_spread _ _ _ i hi c _ (hb i hi)]
  show _ = cx s (fun _ => up) f i
  unfold cx
  have hxi := hx i hi
  cases hc : i.testBit s
  · have hq := hp.2 hc
    cases up
    · show max _ _ = _
      rw [hxi, hq]; rfl
    · show min _ _ = _
      rw [hxi, hq]; rfl
  · have hq := hp.1 hc
    cases up
    · show min _ _ = _
      rw [hxi, hq]; rfl
    · show max _ _ = _
      rw [hxi, hq]; rfl

/-- The exchange whose direction is read off the rows' bit `k`. -/
theorem runs_mask {m n j s k : Nat} (h : n + j = m) (hj : j = 2 ^ s) (hm : 2 ^ (s + 1) ∣ m) (up : Bool) {b b' : IVec (Col m) 1}
    (hb : Marks m b s) (hb' : Marks m b' k) :
    Runs m (exchangeMask m n j h up b b') [s] (fun i => (i.testBit k) ^^ up) := fun c x f hx i hi => by
  have hp := shift_partner h hj hm hx i hi
  have hk : keepMin m up b b' (ix2 ⟨i, hi⟩ 0) = BitVec.ofBool (i.testBit s == !(i.testBit k ^^ up)) := by
    have h1 := hb i hi
    have h2 := hb' i hi
    cases up
    · show IntOp.xori _ _ = _
      rw [h1, h2]
      cases i.testBit s <;> cases i.testBit k <;> rfl
    · show IntOp.xori (IntOp.xori _ _) (1#1) = _
      rw [h1, h2]
      cases i.testBit s <;> cases i.testBit k <;> rfl
  have hq : select (spread m b) (shiftDown m n j h x) (shiftUp m n j h x) (ix2 ⟨i, hi⟩ c) = f (i ^^^ 2 ^ s) := by
    rw [select_spread _ _ _ i hi c _ (hb i hi)]
    cases hc : i.testBit s
    · exact hp.2 hc
    · exact hp.1 hc
  unfold exchangeMask
  rw [select_spread _ _ _ i hi c _ hk]
  show _ = cx s (fun i => (i.testBit k) ^^ up) f i
  unfold cx
  have hxi := hx i hi
  simp only [beq_iff_eq]
  split
  · show min _ _ = _
    rw [hxi, hq]
  · show max _ _ = _
    rw [hxi, hq]

/-- Runs on the even and on the odd blocks of `2^p` rows: one run whose direction is read off bit `p`. -/
theorem runs_halves {m n g k p : Nat} (h : g * 2 * k = m) (h' : g * k = n) (hk : k = 2 ^ p) {l : List Nat} (hl : ∀ s ∈ l, s < p)
    (up : Bool) {G G' : FVec Ideal (Rows n) .f32 → FVec Ideal (Rows n) .f32} (hG : Runs n G l (fun _ => up))
    (hG' : Runs n G' l (fun _ => !up)) :
    Runs m (onHalves m n g k h h' G G') l (fun i => (i.testBit p) ^^ up) := fun c x f hx i hi => by
  have hk0 : 0 < k := by rw [hk]; exact Nat.two_pow_pos p
  have hlo : Rep n (firstHalf m n g k h h' x) c (f ∘ lo p) := fun r hr => by
    unfold firstHalf
    have ha : r / k < g := (Nat.div_lt_iff_lt_mul hk0).2 (by rw [h']; exact hr)
    rw [cast_blk_rows _ _ ⟨r, hr⟩ c ⟨r / k, ha⟩ ⟨r % k, Nat.mod_lt _ hk0⟩ (by rw [Nat.mul_comm]; exact (Nat.div_add_mod _ _).symm),
      firstBlk_apply]
    refine (hx _ _).trans (congrArg f ?_)
    show (r / k * 2 + 0) * k + r % k = _
    subst hk
    unfold lo
    rw [Nat.pow_succ]; ring
  have hhi : Rep n (secondHalf m n g k h h' x) c (f ∘ Net.hi p) := fun r hr => by
    unfold secondHalf
    have ha : r / k < g := (Nat.div_lt_iff_lt_mul hk0).2 (by rw [h']; exact hr)
    rw [cast_blk_rows _ _ ⟨r, hr⟩ c ⟨r / k, ha⟩ ⟨r % k, Nat.mod_lt _ hk0⟩ (by rw [Nat.mul_comm]; exact (Nat.div_add_mod _ _).symm),
      secondBlk_apply]
    refine (hx _ _).trans (congrArg f ?_)
    show (r / k * 2 + 1) * k + r % k = _
    subst hk
    unfold Net.hi
    rw [Nat.pow_succ]; ring
  have h1 := hG c _ _ hlo
  have h2 := hG' c _ _ hhi
  have ha : i / k / 2 < g := by
    rw [Nat.div_div_eq_div_mul, Nat.div_lt_iff_lt_mul (by omega), Nat.mul_comm k 2, ← Nat.mul_assoc, h]; exact hi
  have hr : i % k < k := Nat.mod_lt _ hk0
  have hb : i / k % 2 < 2 := Nat.mod_lt _ (by decide)
  have e1 : k * (i / k) + i % k = i := Nat.div_add_mod _ _
  have e2 : 2 * (i / k / 2) + i / k % 2 = i / k := Nat.div_add_mod _ _
  have ei : i = ((i / k / 2) * 2 + i / k % 2) * k + i % k := by
    rw [Nat.mul_comm (i / k / 2) 2, e2, Nat.mul_comm]; exact e1.symm
  have eh : half p i = (i / k / 2 * 1 + 0) * k + i % k := by
    unfold half
    rw [hk, Nat.div_div_eq_div_mul, Nat.pow_succ]; ring
  have hn : half p i < n := by
    rw [eh]
    exact row_lt (t := 1) (by rw [Nat.mul_one, h']) ha (by decide) hr
  unfold onHalves interleave
  rw [cast_blocks_rows _ _ ⟨i, hi⟩ c ⟨i / k / 2, ha⟩ ⟨i / k % 2, hb⟩ ⟨i % k, hr⟩ ei, pair_apply,
    cast_rows_blocks (by rw [Nat.mul_one, h']), cast_rows_blocks (by rw [Nat.mul_one, h'])]
  have ht := testBit_div i p
  rw [← hk] at ht
  rcases Nat.mod_two_eq_zero_or_one (i / k) with h0 | h0
  · have hc : i.testBit p = false := by rw [ht, h0]; rfl
    rw [if_pos h0]
    have h3 := h1 (half p i) hn
    have h4 : run l (fun i => (i.testBit p) ^^ up) f (lo p (half p i)) = run l (fun _ => up) (f ∘ lo p) (half p i) :=
      run_comp (fun s hs => lo_xor (hl s hs)) (fun s hs j => by rw [lo_testBit, if_pos (hl s hs)])
        (fun j => by rw [lo_testBit, if_neg (by omega), if_pos rfl, Bool.false_xor]) f _
    rw [lo_half hc] at h4
    rw [h4, ← h3]
    congr 2
    exact Fin.ext eh.symm
  · have hc : i.testBit p = true := by rw [ht, h0]; rfl
    rw [if_neg (by show ¬ i / k % 2 = 0; omega)]
    have h3 := h2 (half p i) hn
    have h4 : run l (fun i => (i.testBit p) ^^ up) f (Net.hi p (half p i)) = run l (fun _ => !up) (f ∘ Net.hi p) (half p i) :=
      run_comp (fun s hs => hi_xor (hl s hs)) (fun s hs j => by rw [hi_testBit, if_pos (hl s hs)])
        (fun j => by rw [hi_testBit, if_neg (by omega), if_pos rfl, Bool.true_xor]) f _
    rw [hi_half hc] at h4
    rw [h4, ← h3]
    congr 2
    exact Fin.ext eh.symm

end Cert.Net

end
-- ==== Proof.Tiles.lean ====
/-
  The sort of a tile, the merge of a pair of tiles and the large distances, as runs on a column.
-/
module

public import proofs.«01_k».proof.Proof.Column

@[expose] public section

noncomputable section

namespace Cert.Net

open Idealize.ShloMosaic
open Idealize.ShloMosaic.ValueIdx (ix1 ix2 ix3 ix4 eq_ix1 eq_ix2 eq_ix3 eq_ix4)

/-- The three masks of a tile mark bits 0, 1 and 2 of the row number. -/
structure Good (m : Nat) (M : Masks m) : Prop where
  /-- The first marks bit 0. -/
  m1 : Marks m M.b1 0
  /-- The second marks bit 1. -/
  m2 : Marks m M.b2 1
  /-- The third marks bit 2. -/
  m4 : Marks m M.b4 2

/-- A bit of a small number, by words. -/
theorem word_bit : ∀ (i : Fin 64) (s : Fin 3),
    IntOp.cmpi .ne (IntOp.andi (BitVec.ofNat 32 i.val) (BitVec.ofNat 32 (2 ^ s.val))) (0#32) = BitVec.ofBool (i.val.testBit s.val) := by
  decide +kernel

/-- The kernel's mask of a bit marks that bit. -/
theorem marks_bitMask {m s : Nat} (hm : m ≤ 64) (hs : s < 3) (h : (Col m).Iotas .tc 32 [0]) {j : BitVec 32}
    (hj : j = BitVec.ofNat 32 (2 ^ s)) : Marks m (bitMask m h j) s := fun i hi => by
  subst hj
  rw [← word_bit ⟨i, by omega⟩ ⟨s, hs⟩]
  show IntOp.cmpi .ne (IntOp.andi (BitVec.ofNat 32 (0 * m + i)) _) _ = _
  rw [Nat.zero_mul, Nat.zero_add]
  rfl

/-- The kernel's three masks. -/
theorem good_bitMasks {m : Nat} (hm : m ≤ 64) (h : (Col m).Iotas .tc 32 [0]) : Good m (bitMasks m h) :=
  ⟨marks_bitMask hm (by decide) h (by decide), marks_bitMask hm (by decide) h (by decide), marks_bitMask hm (by decide) h (by decide)⟩

/-- The exchange of blocks of `2^s` rows. -/
theorem blk (m g s : Nat) (up : Bool) (h : g * 2 * 2 ^ s = m) : Runs m (exchangeBlocks m g (2 ^ s) h up) [s] (fun _ => up) :=
  runs_blocks h rfl up

theorem runs_small32 (up : Bool) {M : Masks 32} (hM : Good 32 M) : Runs 32 (small32 up M) [2, 1, 0] (fun _ => up) :=
  ((runs_rot (m := 32) (n := 28) (j := 4) (s := 2) rfl rfl (by decide) up hM.m4).comp
    (runs_rot (m := 32) (n := 30) (j := 2) (s := 1) rfl rfl (by decide) up hM.m2)).comp
    (runs_rot (m := 32) (n := 31) (j := 1) (s := 0) rfl rfl (by decide) up hM.m1)

theorem runs_small64 (up : Bool) {M : Masks 64} (hM : Good 64 M) : Runs 64 (small64 up M) [2, 1, 0] (fun _ => up) :=
  ((runs_rot (m := 64) (n := 60) (j := 4) (s := 2) rfl rfl (by decide) up hM.m4).comp
    (runs_rot (m := 64) (n := 62) (j := 2) (s := 1) rfl rfl (by decide) up hM.m2)).comp
    (runs_rot (m := 64) (n := 63) (j := 1) (s := 0) rfl rfl (by decide) up hM.m1)

theorem runs_steps8 (up : Bool) {M : Masks 32} (hM : Good 32 M) : Runs 32 (steps8 up M) [3, 2, 1, 0] (fun _ => up) :=
  (blk 32 2 3 up rfl).comp (runs_small32 up hM)

theorem runs_steps16 (up : Bool) {M : Masks 32} (hM : Good 32 M) : Runs 32 (steps16 up M) [4, 3, 2, 1, 0] (fun _ => up) :=
  (blk 32 1 4 up rfl).comp (runs_steps8 up hM)

/-- The merge of 64 rows is the run over the distances 32 to 1. -/
theorem runs_merge64 (up : Bool) {M : Masks 64} (hM : Good 64 M) : Runs 64 (merge64 up M) [5, 4, 3, 2, 1, 0] (fun _ => up) :=
  (((blk 64 1 5 up rfl).comp (blk 64 2 4 up rfl)).comp (blk 64 4 3 up rfl)).comp (runs_small64 up hM)

/-- The direction of a level inside a tile: bit `k` of the row number, turned by the tile's direction. -/
def dirIn (k : Nat) (up : Bool) (i : Nat) : Bool := (i.testBit k) ^^ up

/-- The six levels of the sort of a tile. -/
def tileRun {α : Type} [LinearOrder α] (up : Bool) (f : Nat → α) : Nat → α :=
  run [5, 4, 3, 2, 1, 0] (fun _ => up) (run [4, 3, 2, 1, 0] (dirIn 5 up) (run [3, 2, 1, 0] (dirIn 4 up)
    (run [2, 1, 0] (dirIn 3 up) (run [1, 0] (dirIn 2 up) (run [0] (dirIn 1 up) f)))))

/-- The sort of a tile is its six levels. -/
theorem rep_tileSort (h64 : (Col 64).Iotas .tc 32 [0]) (h32 : (Col 32).Iotas .tc 32 [0]) (up : Bool) (x : FVec Ideal (Rows 64) .f32)
    (c : Fin 128) (f : Nat → EReal) (hx : Rep 64 x c f) : Rep 64 (tileSort' h64 h32 up x) c (tileRun up f) := by
  have hM := good_bitMasks (Nat.le_refl 64) h64
  have hN := good_bitMasks (by decide : 32 ≤ 64) h32
  have k2 := marks_bitMask (s := 1) (Nat.le_refl 64) (by decide) h64 (j := 2#32) (by decide)
  have k4 := marks_bitMask (s := 2) (Nat.le_refl 64) (by decide) h64 (j := 4#32) (by decide)
  have l1 := runs_mask (m := 64) (n := 63) rfl rfl (by decide) up hM.m1 k2 c x f hx
  have l2 := ((runs_mask (m := 64) (n := 62) rfl rfl (by decide) up hM.m2 k4).comp
    (runs_mask (m := 64) (n := 63) rfl rfl (by decide) up hM.m1 k4)) c _ _ l1
  have l3 := runs_halves (m := 64) (n := 32) (g := 4) (p := 3) rfl rfl rfl (by decide) up (runs_small32 up hN) (runs_small32 (!up) hN) c _ _ l2
  have l4 := runs_halves (m := 64) (n := 32) (g := 2) (p := 4) rfl rfl rfl (by decide) up (runs_steps8 up hN) (runs_steps8 (!up) hN) c _ _ l3
  have l5 := runs_halves (m := 64) (n := 32) (g := 1) (p := 5) rfl rfl rfl (by decide) up (runs_steps16 up hN) (runs_steps16 (!up) hN) c _ _ l4
  exact runs_merge64 up hM c _ _ l5

/-- Row `i` of block `a` of `2^p` rows. -/
def tile (p a i : Nat) : Nat := 2 ^ p * a + i % 2 ^ p

theorem tile_xor {p s : Nat} (hs : s < p) (a i : Nat) : tile p a (i ^^^ 2 ^ s) = tile p a i ^^^ 2 ^ s := by
  unfold tile
  rw [xor_mod hs, mul_add_xor hs _ _ (mod_lt_pow p i)]

theorem tile_testBit (p a i j : Nat) : (tile p a i).testBit j = if j < p then i.testBit j else a.testBit (j - p) := by
  unfold tile
  rw [Nat.testBit_two_pow_mul_add _ (mod_lt_pow p i)]
  split
  · rename_i h
    rw [Nat.testBit_mod_two_pow]; simp [h]
  · rfl

theorem tile_div (p i : Nat) : tile p (i / 2 ^ p) i = i := Nat.div_add_mod _ _

theorem tile_mod (p a i : Nat) : tile p a (i % 2 ^ p) = tile p a i := by unfold tile; rw [Nat.mod_mod]

/-- A run whose distances stay inside blocks, on one block. -/
theorem run_tile {α : Type} [LinearOrder α] {l : List Nat} {p : Nat} (hl : ∀ s ∈ l, s < p) (a : Nat) {d d' : Nat → Bool}
    (hd : ∀ i, d (tile p a i) = d' i) (f : Nat → α) : run l d f ∘ tile p a = run l d' (f ∘ tile p a) := by
  funext i
  exact run_comp (fun s hs => tile_xor (hl s hs) a) (fun s hs j => by rw [tile_testBit, if_pos (hl s hs)]) hd f i

variable {M : Masks 64}

/-- The merge of the two tiles of block `b` of 128 rows. -/
theorem rep_tail (hM : Good 64 M) (up : Bool) (t0 t1 : FVec Ideal (Rows 64) .f32) (c : Fin 128) (f : Nat → EReal) (d : Nat → Bool) (b : Nat)
    (hd : ∀ i, i / 2 ^ 7 = b → d i = up) (h0 : Rep 64 t0 c (f ∘ tile 6 (2 * b))) (h1 : Rep 64 t1 c (f ∘ tile 6 (2 * b + 1))) :
    Rep 64 (tail0 up M t0 t1) c (run [6, 5, 4, 3, 2, 1, 0] d f ∘ tile 6 (2 * b))
      ∧ Rep 64 (tail1 up M t0 t1) c (run [6, 5, 4, 3, 2, 1, 0] d f ∘ tile 6 (2 * b + 1)) := by
  have hd0 : ∀ i, d (tile 6 (2 * b) i) = up := fun i => hd _ (by
    unfold tile; have := mod_lt_pow 6 i; omega)
  have hd1 : ∀ i, d (tile 6 (2 * b + 1) i) = up := fun i => hd _ (by
    unfold tile; have := mod_lt_pow 6 i; omega)
  have b0 : ∀ i, (tile 6 (2 * b) i).testBit 6 = false := fun i => by
    rw [tile_testBit, if_neg (by decide), Nat.sub_self, Nat.testBit_zero]; simp
  have b1 : ∀ i, (tile 6 (2 * b + 1) i).testBit 6 = true := fun i => by
    rw [tile_testBit, if_neg (by decide), Nat.sub_self, Nat.testBit_zero]; simp
  have x0 : ∀ i, tile 6 (2 * b) i ^^^ 2 ^ 6 = tile 6 (2 * b + 1) i := fun i => by
    rw [xor_of_clear (b0 i)]; unfold tile; omega
  have x1 : ∀ i, tile 6 (2 * b + 1) i ^^^ 2 ^ 6 = tile 6 (2 * b) i := fun i => by
    rw [(xor_of_set (b1 i)).2]; unfold tile; omega
  rw [run_cons, run_tile (p := 6) (by decide) _ hd0, run_tile (p := 6) (by decide) _ hd1]
  constructor
  · refine runs_merge64 up hM c _ _ fun i hi => ?_
    have a0 := h0 i hi
    have a1 := h1 i hi
    show _ = cx 6 d f (tile 6 (2 * b) i)
    unfold cx
    rw [b0, hd0, x0]
    cases up
    · show max _ _ = _
      rw [a0, a1]; rfl
    · show min _ _ = _
      rw [a0, a1]; rfl
  · refine runs_merge64 up hM c _ _ fun i hi => ?_
    have a0 := h0 i hi
    have a1 := h1 i hi
    show _ = cx 6 d f (tile 6 (2 * b + 1) i)
    unfold cx
    rw [b1, hd1, x1]
    cases up
    · show min _ _ = _
      rw [a0, a1, min_comm]; rfl
    · show max _ _ = _
      rw [a0, a1, max_comm]; rfl

theorem runs_down256 (up : Bool) : Runs 2048 (down256 up) [7] (fun _ => up) := (blk 2048 8 7 up rfl)
theorem runs_down512 (up : Bool) : Runs 2048 (down512 up) [8, 7] (fun _ => up) := (blk 2048 4 8 up rfl).comp (runs_down256 up)
theorem runs_down1024 (up : Bool) : Runs 2048 (down1024 up) [9, 8, 7] (fun _ => up) := (blk 2048 2 9 up rfl).comp (runs_down512 up)
theorem runs_down2048 (up : Bool) : Runs 2048 (down2048 up) [10, 9, 8, 7] (fun _ => up) := (blk 2048 1 10 up rfl).comp (runs_down1024 up)

theorem runs_head256 : Runs 4096 head256 [7] (dirIn 8 true) :=
  runs_halves (m := 4096) (n := 2048) (g := 8) (k := 256) (p := 8) rfl rfl rfl (by decide) true (runs_down256 true) (runs_down256 false)
theorem runs_head512 : Runs 4096 head512 [8, 7] (dirIn 9 true) :=
  runs_halves (m := 4096) (n := 2048) (g := 4) (k := 512) (p := 9) rfl rfl rfl (by decide) true (runs_down512 true) (runs_down512 false)
theorem runs_head1024 : Runs 4096 head1024 [9, 8, 7] (dirIn 10 true) :=
  runs_halves (m := 4096) (n := 2048) (g := 2) (k := 1024) (p := 10) rfl rfl rfl (by decide) true (runs_down1024 true) (runs_down1024 false)
theorem runs_head2048 : Runs 4096 head2048 [10, 9, 8, 7] (dirIn 11 true) :=
  runs_halves (m := 4096) (n := 2048) (g := 1) (k := 2048) (p := 11) rfl rfl rfl (by decide) true (runs_down2048 true) (runs_down2048 false)
theorem runs_head4096 : Runs 4096 head4096 [11, 10, 9, 8, 7] (fun _ => true) :=
  ((((blk 4096 1 11 true rfl).comp (blk 4096 2 10 true rfl)).comp (blk 4096 4 9 true rfl)).comp
    (blk 4096 8 8 true rfl)).comp (blk 4096 16 7 true rfl)

end Cert.Net

end
-- ==== Proof.Loops.lean ====
/-
  The loops on one column: the first loop sorts every tile, a loop of merges finishes a level of the
  bitonic sort, the last loop adds up the absolute differences.
-/
module

public import proofs.«01_k».proof.Proof.Steps
public import proofs.«01_k».proof.Proof.Tiles

@[expose] public section

noncomputable section

namespace Cert.Net

open Idealize.ShloMosaic
open Idealize.ShloMosaic.ValueIdx (ix1 ix2 ix3 ix4 eq_ix1 eq_ix2 eq_ix3 eq_ix4)

theorem same64_eq (x : FVec Ideal (Rows 64) .f32) : same64 x = x := shapeCast_self _ _
theorem same4096_eq (x : FVec Ideal (Rows 4096) .f32) : same4096 x = x := shapeCast_self _ _

/-- An entry of the scratch with 64 rows replaced, by its row and column. -/
theorem paste_at {n : Nat} (p : Spots n) (t : Fin n) {a : Nat} (ha : p.o t = ![a, 0]) (x : FVec Ideal (Rows 64) .f32)
    (A : FVec Ideal (Rows 4096) .f32) (i : Nat) (hi : i < 4096) (c : Fin 128) :
    paste (F := Ideal) p t x A (ix2 ⟨i, hi⟩ c) = if h : a ≤ i ∧ i < a + 64 then x (ix2 ⟨i - a, by omega⟩ c) else A (ix2 ⟨i, hi⟩ c) :=
  paste_apply (F := Ideal) p t ha x A (ix2 ⟨i, hi⟩ c)

/-- 64 rows of the scratch from row `a` on, as a column. -/
theorem rep_cut {n : Nat} (p : Spots n) (t : Fin n) {a : Nat} (ha : p.o t = ![a, 0]) (h64 : a + 64 ≤ 4096)
    (A : FVec Ideal (Rows 4096) .f32) (c : Fin 128) (f : Nat → EReal)
    (h : ∀ r (hr : r < 64), A (ix2 ⟨a + r, by omega⟩ c) = f r) : Rep 64 (cut (F := Ideal) p t A) c f := fun r hr =>
  (cut_apply (F := Ideal) p t ha h64 A (ix2 ⟨r, hr⟩ c)).trans (h r hr)

/-- Every tile of 64 rows sorted, the even tiles upwards and the odd ones downwards. -/
def tiles (f : Nat → EReal) (i : Nat) : EReal := tileRun (decide (i / 64 % 2 = 0)) (f ∘ tile 6 (i / 64)) (i % 64)

/-- A tile put into the scratch. -/
theorem tileFn_at (h64 : (Col 64).Iotas .tc 32 [0]) (h32 : (Col 32).Iotas .tc 32 [0]) {n : Nat} (p : Spots n) (t : Fin n) (b : Nat) (hb : b < 64)
    (hp : p.o t = ![64 * b, 0]) (up : Bool) (hup : up = decide (b % 2 = 0)) (X A : FVec Ideal (Rows 4096) .f32) (c : Fin 128) (f : Nat → EReal) (hX : Rep 4096 X c f)
    (i : Nat) (hi : i < 4096) :
    tileFn (F := Ideal) h64 h32 p t up X A (ix2 ⟨i, hi⟩ c) = if i / 64 = b then tiles f i else A (ix2 ⟨i, hi⟩ c) := by
  unfold tileFn
  rw [paste_at p t hp, same64_eq, same64_eq]
  by_cases h : i / 64 = b
  · have h' : 64 * b ≤ i ∧ i < 64 * b + 64 := by omega
    have hc : Rep 64 (cut (F := Ideal) p t X) c (f ∘ tile 6 b) := rep_cut p t hp (by omega) X c _ fun r hr => by
      rw [hX _ (by omega)]
      show _ = f (2 ^ 6 * b + r % 64)
      rw [Nat.mod_eq_of_lt hr]; rfl
    have h2 := rep_tileSort h64 h32 up _ c _ hc (i - 64 * b) (by omega)
    rw [dif_pos h', if_pos h, h2]
    unfold tiles
    rw [h, hup, show i % 64 = i - 64 * b by omega]
  · rw [dif_neg (by omega), if_neg h]

/-- The scratch as the first loop leaves it. -/
theorem rep_sorted (h64 : (Col 64).Iotas .tc 32 [0]) (h32 : (Col 32).Iotas .tc 32 [0]) (L : Loop2) (hL : Sweeps L)
    (X : FVec Ideal (Rows 4096) .f32) (c : Fin 128) (f : Nat → EReal) (hX : Rep 4096 X c f) :
    Rep 4096 (sorted (F := Ideal) h64 h32 L X) c (tiles f) := fun i hi => by
  have key : ∀ k, k ≤ L.l.trips → i < 128 * k →
      steps L.l.trips (sortTrip (F := Ideal) h64 h32 L X) k X (ix2 ⟨i, hi⟩ c) = tiles f i := by
    intro k
    induction k with
    | zero => intro _ h; omega
    | succ k ih =>
      intro hk hik
      have hk32 : k < 32 := by have := hL.trips; omega
      rw [steps_succ _ ⟨k, hk⟩]
      unfold sortTrip
      rw [tileFn_at h64 h32 L.p' ⟨k, hk⟩ (2 * k + 1) (by omega) ((hL.o' ⟨k, hk⟩).trans (by congr 1; show 128 * k + 64 = _; omega)) false
        (by symm; simp) X _ c f hX i hi,
        tileFn_at h64 h32 L.p ⟨k, hk⟩ (2 * k) (by omega) ((hL.o ⟨k, hk⟩).trans (by congr 1; show 128 * k = _; omega)) true
        (by symm; simp) X _ c f hX i hi]
      split
      · rfl
      · split
        · rfl
        · exact ih (by omega) (by omega)
  exact key _ (Nat.le_refl _) (by rw [hL.trips]; exact hi)

variable {M : Masks 64}

/-- The distances 64 to 1. -/
abbrev small : List Nat := [6, 5, 4, 3, 2, 1, 0]

/-- The merges of block `b` of 128 rows. -/
theorem reps_tail (hM : Good 64 M) {n : Nat} (p p' : Spots n) (t : Fin n) (b : Nat) (hb : b < 32) (hp : p.o t = ![128 * b, 0])
    (hp' : p'.o t = ![128 * b + 64, 0]) (up : Bool) (d : Nat → Bool) (hd : ∀ i, i / 2 ^ 7 = b → d i = up)
    (A : FVec Ideal (Rows 4096) .f32) (c : Fin 128) (f : Nat → EReal)
    (hA : ∀ i (hi : i < 4096), i / 128 = b → A (ix2 ⟨i, hi⟩ c) = f i) :
    Rep 64 (tail0 up M (cut (F := Ideal) p t A) (cut (F := Ideal) p' t A)) c (run small d f ∘ tile 6 (2 * b))
      ∧ Rep 64 (tail1 up M (cut (F := Ideal) p t A) (cut (F := Ideal) p' t A)) c (run small d f ∘ tile 6 (2 * b + 1)) :=
  rep_tail hM up _ _ c f d b hd
    (rep_cut p t hp (by omega) A c _ fun r hr => (hA _ (by omega) (by omega)).trans (by
      show _ = f (2 ^ 6 * (2 * b) + r % 64)
      rw [Nat.mod_eq_of_lt hr]; congr 1; omega))
    (rep_cut p' t hp' (by omega) A c _ fun r hr => (hA _ (by omega) (by omega)).trans (by
      show _ = f (2 ^ 6 * (2 * b + 1) + r % 64)
      rw [Nat.mod_eq_of_lt hr]; congr 1; omega))

/-- The merge of block `b` of 128 rows, in place. -/
theorem tailFn_at (hM : Good 64 M) {n : Nat} (p p' : Spots n) (t : Fin n) (b : Nat) (hb : b < 32) (hp : p.o t = ![128 * b, 0])
    (hp' : p'.o t = ![128 * b + 64, 0]) (up : Bool) (d : Nat → Bool) (hd : ∀ i, i / 2 ^ 7 = b → d i = up)
    (A : FVec Ideal (Rows 4096) .f32) (c : Fin 128) (f : Nat → EReal)
    (hA : ∀ i (hi : i < 4096), i / 128 = b → A (ix2 ⟨i, hi⟩ c) = f i) (i : Nat) (hi : i < 4096) :
    tailFn (F := Ideal) M p p' t up A (ix2 ⟨i, hi⟩ c) = if i / 128 = b then run small d f i else A (ix2 ⟨i, hi⟩ c) := by
  have h := reps_tail hM p p' t b hb hp hp' up d hd A c f hA
  unfold tailFn
  rw [paste_at p' t hp', paste_at p t hp, same64_eq, same64_eq]
  by_cases hb1 : 128 * b + 64 ≤ i ∧ i < 128 * b + 64 + 64
  · rw [dif_pos hb1, if_pos (by omega), h.2 _ (by omega)]
    show run small d f (2 ^ 6 * (2 * b + 1) + (i - (128 * b + 64)) % 64) = _
    congr 1; omega
  · rw [dif_neg hb1]
    by_cases hb0 : 128 * b ≤ i ∧ i < 128 * b + 64
    · rw [dif_pos hb0, if_pos (by omega), h.1 _ (by omega)]
      show run small d f (2 ^ 6 * (2 * b) + (i - 128 * b) % 64) = _
      congr 1; omega
    · rw [dif_neg hb0, if_neg (by omega)]

/-- What a loop of merges accesses: at trip `t` the block of 128 rows with number `lo e t`, merged
    upwards, and the one with number `hi e t`, merged downwards. -/
structure Merges (L : Loop4) (e : Nat) : Prop where
  /-- It makes 16 trips. -/
  trips : L.l.trips = 16
  /-- The first half of the first block. -/
  p : ∀ t, L.p.o t = ![128 * lo e t.val, 0]
  /-- Its second half. -/
  p' : ∀ t, L.p'.o t = ![128 * lo e t.val + 64, 0]
  /-- The first half of the second block. -/
  q : ∀ t, L.q.o t = ![128 * hi e t.val, 0]
  /-- Its second half. -/
  q' : ∀ t, L.q'.o t = ![128 * hi e t.val + 64, 0]

/-- The blocks a trip reaches, the bits that tell them apart, and the trip that reaches a block. -/
theorem blocks_facts : ∀ (e : Fin 5) (t : Fin 16), lo e.val t.val < 32 ∧ hi e.val t.val < 32
    ∧ (lo e.val t.val).testBit e.val = false ∧ (hi e.val t.val).testBit e.val = true
    ∧ half e.val (lo e.val t.val) = t.val ∧ half e.val (hi e.val t.val) = t.val := by
  decide +kernel

theorem half_lt : ∀ (e : Fin 5) (b : Fin 32), half e.val b.val < 16 := by
  decide +kernel

/-- A loop of merges is the run over the distances 64 to 1, its direction read off bit `7 + e`. -/
theorem runs_tailAll (hM : Good 64 M) (L : Loop4) (e : Nat) (he : e < 5) (hL : Merges L e) :
    Runs 4096 (tailAll (F := Ideal) M L) small (dirIn (7 + e) true) := fun c A f hA i hi => by
  have hd : ∀ j b, j / 2 ^ 7 = b → dirIn (7 + e) true j = !b.testBit e := by
    intro j b hj
    unfold dirIn
    rw [← hj, Nat.testBit_div_two_pow, Nat.add_comm e 7, Bool.xor_true]
  have key : ∀ k, k ≤ L.l.trips → ∀ i (hi : i < 4096),
      steps L.l.trips (tailTrip (F := Ideal) M L) k A (ix2 ⟨i, hi⟩ c)
        = if half e (i / 128) < k then run small (dirIn (7 + e) true) f i else f i := by
    intro k
    induction k with
    | zero => intro _ i hi; rw [if_neg (by omega)]; exact hA i hi
    | succ k ih =>
      intro hk i hi
      have hk16 : k < 16 := by have := hL.trips; omega
      have ih' := ih (by omega)
      obtain ⟨f1, f2, f3, f4, f5, f6⟩ := blocks_facts ⟨e, he⟩ ⟨k, hk16⟩
      simp only at f1 f2 f3 f4 f5 f6
      rw [steps_succ _ ⟨k, hk⟩]
      show tailFn (F := Ideal) M L.q L.q' ⟨k, hk⟩ false (tailFn M L.p L.p' ⟨k, hk⟩ true
        (steps L.l.trips (tailTrip M L) k A)) (ix2 ⟨i, hi⟩ c) = _
      have hne : lo e k ≠ Net.hi e k := fun h => by rw [h, f4] at f3; cases f3
      have s1 := tailFn_at hM L.p L.p' ⟨k, hk⟩ (lo e k) f1 (hL.p _) (hL.p' _) true (dirIn (7 + e) true)
        (fun j hj => by rw [hd j _ hj, f3]; rfl) (steps L.l.trips (tailTrip (F := Ideal) M L) k A) c f
        (fun j hj hjb => by rw [ih' j hj, if_neg]; rw [hjb, f5]; omega)
      rw [tailFn_at hM L.q L.q' ⟨k, hk⟩ (Net.hi e k) f2 (hL.q _) (hL.q' _) false (dirIn (7 + e) true)
        (fun j hj => by rw [hd j _ hj, f4]; rfl) _ c f
        (fun j hj hjb => by rw [s1 j hj, if_neg (by rw [hjb]; exact fun h => hne h.symm), ih' j hj, if_neg]; rw [hjb, f6]; omega), s1, ih' i hi]
      by_cases hq : i / 128 = Net.hi e k
      · rw [if_pos hq, if_pos (by rw [hq, f6]; omega)]
      · rw [if_neg hq]
        by_cases hp : i / 128 = lo e k
        · rw [if_pos hp, if_pos (by rw [hp, f5]; omega)]
        · rw [if_neg hp]
          have : half e (i / 128) ≠ k := by
            intro h
            cases hb : (i / 128).testBit e
            · exact hp (by rw [← h, lo_half hb])
            · exact hq (by rw [← h, hi_half hb])
          by_cases hlt : half e (i / 128) < k
          · rw [if_pos hlt, if_pos (by omega)]
          · rw [if_neg hlt, if_neg (by omega)]
  have h := key _ (Nat.le_refl _) i hi
  rw [if_pos] at h
  · exact h
  · rw [hL.trips]; exact half_lt ⟨e, he⟩ ⟨i / 128, by omega⟩

/-- A level of the bitonic sort on a column: the distances `2^l` to 1, the direction read off bit `l + 1`. -/
def level (l : Nat) (f : Nat → EReal) : Nat → EReal := run (List.range (l + 1)).reverse (dirIn (l + 1) true) f

/-- The levels of 128 to 2048 rows. -/
def levels (f : Nat → EReal) : Nat → EReal := level 10 (level 9 (level 8 (level 7 (level 6 f))))

/-- The scratch before the last loop. -/
theorem rep_middle (hM : Good 64 M) {L2 L3 L4 L5 L6 : Loop4} (h2 : Merges L2 0) (h3 : Merges L3 1) (h4 : Merges L4 2) (h5 : Merges L5 3)
    (h6 : Merges L6 4) (A : FVec Ideal (Rows 4096) .f32) (c : Fin 128) (f : Nat → EReal) (hA : Rep 4096 A c f) :
    Rep 4096 (middle (F := Ideal) M L2 L3 L4 L5 L6 A) c (run [11, 10, 9, 8, 7] (fun _ => true) (levels f)) := by
  have a2 := runs_tailAll hM L2 0 (by decide) h2 c A f hA
  have a3 := (runs_head256.comp (runs_tailAll hM L3 1 (by decide) h3)) c _ _ a2
  have a4 := (runs_head512.comp (runs_tailAll hM L4 2 (by decide) h4)) c _ _ a3
  have a5 := (runs_head1024.comp (runs_tailAll hM L5 3 (by decide) h5)) c _ _ a4
  have a6 := (runs_head2048.comp (runs_tailAll hM L6 4 (by decide) h6)) c _ _ a5
  unfold middle
  simp only [same4096_eq]
  exact runs_head4096 c _ _ a6

end Cert.Net

end
-- ==== Proof.Sorting.lean ====
/-
  The levels on a column, as sorting networks: the last one leaves the column in ascending order, and
  a column as the levels leave it is a rearrangement of the one they started from.
-/
module

public import Idealize.ShloMosaic.Lib.SortNet.Sorts
public import proofs.«01_k».proof.Proof.Loops

@[expose] public section

noncomputable section

namespace Cert.Net

open Idealize.ShloMosaic Idealize.ShloMosaic.SortNet

/-- The first `2^p` entries of a column. -/
def vec (p : Nat) (f : Nat → EReal) (i : Fin (2 ^ p)) : EReal := f i.val

/-- The network of a run. -/
def net (p : Nat) (l : List Nat) (d : Nat → Bool) : Network (2 ^ p) := l.flatMap fun s => stage p s fun i => !d i.val

/-- A compare-exchange step is a stage of a network. -/
theorem vec_cx {p s : Nat} (hs : s < p) (d : Nat → Bool) (hd : ∀ i, d (i ^^^ 2 ^ s) = d i) (f : Nat → EReal) :
    vec p (cx s d f) = Network.apply (stage p s fun i => !d i.val) (vec p f) := by
  funext i
  cases hb : i.val.testBit s
  · rw [(apply_stage hs _ _ i ((and_two_pow_eq_zero_iff_testBit _ _).2 hb)).1]
    unfold vec cx
    rw [partner_val hs, hb]
    cases d i.val <;> rfl
  · have hc : (partner p s i).val &&& 2 ^ s = 0 := by
      rw [and_two_pow_eq_zero_iff_testBit, partner_val hs, testBit_partner, hb]; simp
    have h := (apply_stage hs (fun i => !d i.val) (vec p f) _ hc).2
    rw [partner_partner hs] at h
    rw [h]
    unfold vec cx
    rw [partner_val hs, hb, hd]
    cases d i.val
    · exact min_comm (f i.val) (f (i.val ^^^ 2 ^ s))
    · exact max_comm (f i.val) (f (i.val ^^^ 2 ^ s))

/-- A run is its network. -/
theorem vec_run {p : Nat} (d : Nat → Bool) : ∀ (l : List Nat), (∀ s ∈ l, s < p) → (∀ s ∈ l, ∀ i, d (i ^^^ 2 ^ s) = d i) →
    ∀ f : Nat → EReal, vec p (run l d f) = Network.apply (net p l d) (vec p f)
  | [], _, _, _ => rfl
  | s :: l, hl, hd, f => by
    rw [run_cons, vec_run d l (fun s' h => hl s' (List.mem_cons_of_mem _ h)) (fun s' h => hd s' (List.mem_cons_of_mem _ h)),
      vec_cx (hl s List.mem_cons_self) d (hd s List.mem_cons_self), ← Network.apply_append]
    rfl

/-- Runs whose directions agree on the first `2^p` rows agree there. -/
theorem vec_run_congr {p : Nat} {d d' : Nat → Bool} (hd : ∀ i, i < 2 ^ p → d i = d' i) : ∀ (l : List Nat), (∀ s ∈ l, s < p) →
    ∀ f g : Nat → EReal, vec p f = vec p g → vec p (run l d f) = vec p (run l d' g)
  | [], _, _, _, h => h
  | s :: l, hl, f, g, h => by
    rw [run_cons, run_cons]
    refine vec_run_congr hd l (fun s' h => hl s' (List.mem_cons_of_mem _ h)) _ _ (funext fun i => ?_)
    have h1 : f i.val = g i.val := congrFun h i
    have h2 : f (i.val ^^^ 2 ^ s) = g (i.val ^^^ 2 ^ s) :=
      congrFun h ⟨i.val ^^^ 2 ^ s, xor_lt (hl s List.mem_cons_self) (Nat.dvd_refl _) i.isLt⟩
    show cx s d f i.val = cx s d' g i.val
    unfold cx
    rw [hd i.val i.isLt, h1, h2]

/-- A direction read off bit `k` does not change at a smaller distance. -/
theorem dirIn_xor {k s : Nat} (hs : s < k) (up : Bool) (i : Nat) : dirIn k up (i ^^^ 2 ^ s) = dirIn k up i := by
  unfold dirIn
  rw [testBit_partner, decide_eq_false (by omega), Bool.xor_false]

/-- A level is a level of Batcher's sort. -/
theorem vec_level {p l : Nat} (hl : l < p) (up : Bool) (f : Nat → EReal) :
    vec p (run (List.range (l + 1)).reverse (dirIn (l + 1) up) f) = Network.apply (levelNet p (!up) l) (vec p f) := by
  have hs : ∀ s ∈ (List.range (l + 1)).reverse, s < l + 1 := fun s h => List.mem_range.1 (List.mem_reverse.1 h)
  rw [vec_run _ _ (fun s h => by have := hs s h; omega) (fun s h i => dirIn_xor (hs s h) up i)]
  have e : (fun i : Fin (2 ^ p) => !dirIn (l + 1) up i.val) = fun i => (decide (i.val &&& 2 ^ (l + 1) = 0)) == !up := by
    funext i
    unfold dirIn
    cases hb : i.val.testBit (l + 1)
    · rw [decide_eq_true ((and_two_pow_eq_zero_iff_testBit _ _).2 hb)]; cases up <;> rfl
    · rw [decide_eq_false (fun h => by rw [(and_two_pow_eq_zero_iff_testBit _ _).1 h] at hb; cases hb)]; cases up <;> rfl
  unfold net levelNet
  rw [e]

/-- The sort of a tile is Batcher's sort of 64. -/
theorem vec_tileRun (up : Bool) (f : Nat → EReal) : vec 6 (tileRun up f) = Network.apply (sortNet 6 (!up)) (vec 6 f) := by
  have h : vec 6 (tileRun up f) = vec 6 (run (List.range 6).reverse (dirIn 6 up) (run (List.range 5).reverse (dirIn 5 up)
      (run (List.range 4).reverse (dirIn 4 up) (run (List.range 3).reverse (dirIn 3 up) (run (List.range 2).reverse (dirIn 2 up)
        (run (List.range 1).reverse (dirIn 1 up) f)))))) :=
    vec_run_congr (fun i hi => by unfold dirIn; rw [Nat.testBit_lt_two_pow hi, Bool.false_xor]) _ (by decide) _ _ rfl
  rw [h, vec_level (by decide), vec_level (by decide), vec_level (by decide), vec_level (by decide), vec_level (by decide),
    vec_level (by decide), sortNet_eq_levelsNet]
  simp only [levelsNet_succ, Network.apply_append]
  rfl

/-- Every block of `2^l` rows is in order: ascending if its number is even, descending if it is odd. -/
def Alternating {p l : Nat} (hl : l ≤ p) (v : Fin (2 ^ p) → EReal) : Prop :=
  ∀ c : Fin (2 ^ (p - l)), (c.val % 2 = 0 → Monotone fun j => v (chunkPos hl c j)) ∧ (c.val % 2 = 1 → Antitone fun j => v (chunkPos hl c j))

/-- A block of two in opposite orders ascends, then descends. -/
theorem Alternating.descAsc {p l : Nat} (hl : l + 1 ≤ p) {v : Fin (2 ^ p) → EReal} (h : Alternating (Nat.le_of_succ_le hl) v)
    (c : Fin (2 ^ (p - (l + 1)))) : DescAsc fun j => v (chunkPos hl c j) := by
  have hc := c.isLt
  have e : 2 ^ (p - l) = 2 ^ (p - (l + 1)) * 2 := by rw [show p - l = p - (l + 1) + 1 by omega, Nat.pow_succ]
  have h0 := (h ⟨2 * c.val, by omega⟩).1 (Nat.mul_mod_right 2 c.val)
  have h1 := (h ⟨2 * c.val + 1, by omega⟩).2 (by show (2 * c.val + 1) % 2 = 1; omega)
  simp only [chunkPos_two_mul hl] at h0
  simp only [chunkPos_two_mul_add_one hl] at h1
  refine ⟨2 ^ l, Or.inr ⟨fun i j hij hj => ?_, fun i j hij hi => ?_⟩⟩
  · have hv : i.val ≤ j.val := hij
    have := h0 (show (⟨i.val, by omega⟩ : Fin (2 ^ l)) ≤ ⟨j.val, hj⟩ from hv)
    exact this
  · have hv : i.val ≤ j.val := hij
    have e1 := eq_upperPos i (by omega)
    have e2 := eq_upperPos j (by omega)
    rw [e1, e2]
    exact h1 (show i.val - 2 ^ l ≤ j.val - 2 ^ l by omega)

/-- A level takes blocks in alternating orders to blocks of twice the size in alternating orders. -/
theorem Alternating.step {p l : Nat} (hl : l + 1 ≤ p) {v : Fin (2 ^ p) → EReal} (h : Alternating (Nat.le_of_succ_le hl) v) :
    Alternating hl (Network.apply (levelNet p false l) v) := fun c => by
  have hs := h.descAsc hl c
  constructor
  · intro hc
    have e : (fun j => Network.apply (levelNet p false l) v (chunkPos hl c j))
        = Network.apply (mergeAscNet (l + 1)) fun j => v (chunkPos hl c j) := funext fun j => by
      rw [apply_levelNet_chunkPos hl, decide_eq_true hc]; rfl
    rw [e]
    exact mergeAscNet_apply_monotone _ _ hs
  · intro hc
    have e : (fun j => Network.apply (levelNet p false l) v (chunkPos hl c j))
        = Network.apply (mergeDescNet (l + 1)) fun j => v (chunkPos hl c j) := funext fun j => by
      rw [apply_levelNet_chunkPos hl, decide_eq_false (by omega)]; rfl
    rw [e]
    exact mergeDescNet_apply_antitone _ _ hs

/-- The sorted tiles are in alternating orders. -/
theorem alternating_tiles (f : Nat → EReal) : Alternating (p := 12) (l := 6) (by decide) (vec 12 (tiles f)) := fun c => by
  have e : (fun j => vec 12 (tiles f) (chunkPos (p := 6) (by decide) c j))
      = vec 6 (tileRun (decide (c.val % 2 = 0)) (f ∘ tile 6 c.val)) := funext fun j => by
    show tiles f (c.val * 2 ^ 6 + j.val) = tileRun _ _ j.val
    have hj : j.val < 64 := j.isLt
    unfold tiles
    rw [show (c.val * 2 ^ 6 + j.val) / 64 = c.val by omega, show (c.val * 2 ^ 6 + j.val) % 64 = j.val by omega]
  rw [e, vec_tileRun]
  constructor
  · intro hc
    rw [decide_eq_true hc]
    exact sortNet_apply_monotone 6 _
  · intro hc
    rw [decide_eq_false (by omega)]
    exact sortNet_apply_antitone 6 _

/-- The column as the whole sort leaves it. -/
def sortCol (f : Nat → EReal) : Nat → EReal := run small (fun _ => true) (run [11, 10, 9, 8, 7] (fun _ => true) (levels (tiles f)))

/-- Its last level is a level like the others. -/
theorem vec_sortCol (f : Nat → EReal) : vec 12 (sortCol f) = vec 12 (level 11 (levels (tiles f))) := by
  unfold sortCol
  rw [← run_append]
  exact vec_run_congr (fun i hi => by unfold dirIn; rw [Nat.testBit_lt_two_pow hi]; rfl) _ (by decide) _ _ rfl

/-- The whole sort leaves the column in ascending order. -/
theorem sortCol_monotone (f : Nat → EReal) : Monotone (vec 12 (sortCol f)) := by
  have h := (((((alternating_tiles f).step (by decide)).step (by decide)).step (by decide)).step (by decide)).step (by decide)
  have h' := (h.step (l := 11) (by decide) ⟨0, by decide⟩).1 rfl
  have e : vec 12 (sortCol f) = Network.apply (levelNet 12 false 11) (Network.apply (levelNet 12 false 10) (Network.apply (levelNet 12 false 9)
      (Network.apply (levelNet 12 false 8) (Network.apply (levelNet 12 false 7) (Network.apply (levelNet 12 false 6) (vec 12 (tiles f))))))) := by
    rw [vec_sortCol]
    unfold levels level
    rw [vec_level (by decide), vec_level (by decide), vec_level (by decide), vec_level (by decide), vec_level (by decide), vec_level (by decide)]
    rfl
  simp only [chunkPos_self] at h'
  rw [e]
  exact h'

/-- The first `2^p` entries of `g` are those of `f` in some order. -/
def Rearranged (p : Nat) (g f : Nat → EReal) : Prop := ∃ σ : Equiv.Perm (Fin (2 ^ p)), vec p g = vec p f ∘ σ

theorem Rearranged.trans {p : Nat} {h g f : Nat → EReal} (a : Rearranged p h g) (b : Rearranged p g f) : Rearranged p h f := by
  obtain ⟨σ, hσ⟩ := a
  obtain ⟨τ, hτ⟩ := b
  exact ⟨σ.trans τ, by rw [hσ, hτ]; rfl⟩

/-- A run rearranges. -/
theorem rearranged_run {p : Nat} (d : Nat → Bool) (l : List Nat) (hl : ∀ s ∈ l, s < p) (hd : ∀ s ∈ l, ∀ i, d (i ^^^ 2 ^ s) = d i)
    (f : Nat → EReal) : Rearranged p (run l d f) f := by
  unfold Rearranged
  rw [vec_run d l hl hd]
  exact Network.exists_perm _ _

/-- A level rearranges. -/
theorem rearranged_level {l : Nat} (hl : l < 12) (f : Nat → EReal) : Rearranged 12 (level l f) f := by
  have hs : ∀ s ∈ (List.range (l + 1)).reverse, s < l + 1 := fun s h => List.mem_range.1 (List.mem_reverse.1 h)
  exact rearranged_run _ _ (fun s h => by have := hs s h; omega) (fun s h i => dirIn_xor (hs s h) true i) f

/-- A direction inside the tiles of a column: the tiles go up and down alternately. -/
def tileDir (k i : Nat) : Bool := dirIn k (!(i.testBit 6)) i

/-- The last level of the tiles. -/
def tileEnd (i : Nat) : Bool := !(i.testBit 6)

/-- The six levels of all tiles at once. -/
def tilesRun (f : Nat → EReal) : Nat → EReal :=
  run [5, 4, 3, 2, 1, 0] tileEnd (run [4, 3, 2, 1, 0] (tileDir 5) (run [3, 2, 1, 0] (tileDir 4)
    (run [2, 1, 0] (tileDir 3) (run [1, 0] (tileDir 2) (run [0] (tileDir 1) f)))))

theorem tileEnd_xor {s : Nat} (hs : s < 6) (i : Nat) : tileEnd (i ^^^ 2 ^ s) = tileEnd i := by
  unfold tileEnd
  rw [testBit_partner, decide_eq_false (by omega), Bool.xor_false]

theorem tileDir_xor {k s : Nat} (hk : s < k) (hs : s < 6) (i : Nat) : tileDir k (i ^^^ 2 ^ s) = tileDir k i := by
  unfold tileDir
  rw [dirIn_xor hk, testBit_partner, decide_eq_false (by omega), Bool.xor_false]

/-- The sorted tiles are the six levels of all tiles at once. -/
theorem tiles_eq (f : Nat → EReal) : tiles f = tilesRun f := by
  have hb : ∀ a i, (!((tile 6 a i).testBit 6)) = decide (a % 2 = 0) := fun a i => by
    rw [tile_testBit, if_neg (by decide), Nat.sub_self, Nat.testBit_zero]
    rcases Nat.mod_two_eq_zero_or_one a with h | h <;> rw [h] <;> rfl
  have hd : ∀ a k, k < 6 → ∀ i, tileDir k (tile 6 a i) = dirIn k (decide (a % 2 = 0)) i := fun a k hk i => by
    unfold tileDir
    rw [hb]
    unfold dirIn
    rw [tile_testBit, if_pos hk]
  have key : ∀ a, tilesRun f ∘ tile 6 a = tileRun (decide (a % 2 = 0)) (f ∘ tile 6 a) := fun a => by
    unfold tilesRun tileRun
    rw [run_tile (p := 6) (by decide) a (hb a), run_tile (p := 6) (by decide) a (hd a 5 (by decide)),
      run_tile (p := 6) (by decide) a (hd a 4 (by decide)), run_tile (p := 6) (by decide) a (hd a 3 (by decide)),
      run_tile (p := 6) (by decide) a (hd a 2 (by decide)), run_tile (p := 6) (by decide) a (hd a 1 (by decide))]
  funext i
  unfold tiles
  rw [← key]
  show tilesRun f (tile 6 (i / 64) (i % 2 ^ 6)) = _
  rw [tile_mod]
  exact congrArg _ (tile_div 6 i)

/-- The sorted tiles rearrange. -/
theorem rearranged_tiles (f : Nat → EReal) : Rearranged 12 (tiles f) f := by
  rw [tiles_eq]
  have h : ∀ (k : Nat) (l : List Nat) (g : Nat → EReal), (∀ s ∈ l, s < k ∧ s < 6) → Rearranged 12 (run l (tileDir k) g) g := fun k l g hl =>
    rearranged_run _ _ (fun s hs => by have := hl s hs; omega) (fun s hs i => tileDir_xor (hl s hs).1 (hl s hs).2 i) g
  have h6 : ∀ g, Rearranged 12 (run [5, 4, 3, 2, 1, 0] tileEnd g) g := fun g =>
    rearranged_run _ _ (by decide) (fun s hs i => tileEnd_xor ((by decide : ∀ s ∈ [5, 4, 3, 2, 1, 0], s < 6) s hs) i) g
  exact (h6 _).trans ((h 5 _ _ (by decide)).trans ((h 4 _ _ (by decide)).trans ((h 3 _ _ (by decide)).trans
    ((h 2 _ _ (by decide)).trans (h 1 _ _ (by decide))))))

/-- The whole sort rearranges. -/
theorem rearranged_sortCol (f : Nat → EReal) : Rearranged 12 (sortCol f) f := by
  have h : Rearranged 12 (level 11 (levels (tiles f))) f :=
    (rearranged_level (by decide) _).trans ((rearranged_level (by decide) _).trans ((rearranged_level (by decide) _).trans
      ((rearranged_level (by decide) _).trans ((rearranged_level (by decide) _).trans ((rearranged_level (by decide) _).trans (rearranged_tiles f))))))
  unfold Rearranged at h ⊢
  rw [vec_sortCol]
  exact h

/-- Two arrangements of the same entries in ascending order are the same. -/
theorem unique_sorted {n : Nat} {u v w : Fin n → EReal} (hu : Monotone u) (hv : Monotone v) (σ τ : Equiv.Perm (Fin n))
    (eu : u = w ∘ σ) (ev : v = w ∘ τ) : u = v := by
  have hp : (List.ofFn u).Perm (List.ofFn v) := by
    rw [eu, ev]
    exact (Equiv.Perm.ofFn_comp_perm σ w).trans (Equiv.Perm.ofFn_comp_perm τ w).symm
  exact List.ofFn_injective (hp.eq_of_sortedLE hu.sortedLE_ofFn hv.sortedLE_ofFn)

end Cert.Net

end
-- ==== Proof.HostSort.lean ====
/-
  The reference's sort on one column: it is the column in ascending order, which is what the kernel's
  network leaves.
-/
module

public import Idealize.ShloMosaic.PureOps.Ideal.Laws
public import Idealize.ShloMosaic.Lib.SortFacts
public import proofs.«01_k».proof.Proof.Gen.ReferenceIdeal.Run
public import proofs.«01_k».proof.Proof.InputCols
public import proofs.«01_k».proof.Proof.Sorting

@[expose] public section

noncomputable section

namespace Cert.ReferenceIdeal

open Idealize.ShloMosaic Cert.Net

/-- The comparator is "less than". -/
theorem comparator_eq (l r : Ideal .f32) : (comparator_f32_d0 (F := Ideal) l r == 1#1) = decide (l < r) := by
  have hz : ∀ v : Ideal .f32, Scalar.select (FloatOps.cmpf .oeq v (FloatOps.ofBits .f32 0x00000000#32)) (FloatOps.ofBits .f32 0x00000000#32) v = v := fun v => by
    rw [Ideal.cmpf_def, Ideal.ofBits_def, Ideal.ofBits_zero_f32]
    by_cases h : v = 0
    · rw [h]; unfold Scalar.select; split <;> rfl
    · simp [Scalar.select, Ideal.cmp, h]
  have hn : ∀ v w : Ideal .f32, Scalar.select (FloatOps.cmpf .une v v) (FloatOps.ofBits .f32 0x7FC00000#32) w = w := fun v w => by
    simp [Scalar.select, Ideal.cmpf_def, Ideal.cmp]
  unfold comparator_f32_d0
  simp only [hz, hn, Ideal.cmpfTotal_def]
  show (BitVec.ofBool (decide (l < r)) == 1#1) = _
  cases decide (l < r) <;> rfl

/-- The sort along the first axis, at an entry: the column in ascending order, however that was found. -/
theorem sort_column {n p q : Nat} (x : FVec Ideal ⟨3, ![n, p, q]⟩ .f32) (a : Fin p) (b : Fin q) (u : Fin n → EReal) (hu : Monotone u)
    (σ : Equiv.Perm (Fin n)) (eu : u = (fun k => x (ValueIdx.ix3 k a b)) ∘ σ) (i : Fin n) :
    Host.sort ⟨3, ![n, p, q]⟩ 0 (comparator_f32_d0 (F := Ideal)) x (ValueIdx.ix3 i a b) = u i := by
  let w : Fin n → EReal := fun k => x (ValueIdx.ix3 k a b)
  let s : Fin n → Fin n := sortedFrom fun k k' => decide (w k < w k')
  have hal : ∀ (hd : 0 < 3) (k j : Fin n), Shape.Idx.along (s := ⟨3, ![n, p, q]⟩) (ValueIdx.ix3 j a b) ⟨0, hd⟩ k = ValueIdx.ix3 k a b := fun hd k j => by
    funext d
    match d with
    | ⟨0, _⟩ => rfl
    | ⟨1, _⟩ => rfl
    | ⟨2, _⟩ => rfl
  have hs : ∀ j : Fin n, Host.sort ⟨3, ![n, p, q]⟩ 0 (comparator_f32_d0 (F := Ideal)) x (ValueIdx.ix3 j a b) = w (s j) := fun j => by
    unfold Host.sort
    rw [dif_pos (show 0 < 3 by decide)]
    simp only [comparator_eq]
    refine (congrArg x (hal _ _ j)).trans ?_
    show w (sortedFrom (n := n) _ j) = w (sortedFrom _ j)
    congr 2
    funext k k'
    exact congrArg₂ (fun y z : EReal => decide (y < z)) (congrArg x (hal _ k j)) (congrArg x (hal _ k' j))
  have hv : Monotone (w ∘ s) := fun k l hkl => by
    rcases hkl.lt_or_eq with h | h
    · have hr := sortedFrom_noInversion (fun k k' => decide (w k < w k')) (fun k k' => decide (w k < w k'))
        (fun _ _ h => by simp only [decide_eq_true_eq, decide_eq_false_iff_not, not_lt] at h ⊢; exact h.le) (fun _ _ h => h)
        (fun _ _ _ h h' => by simp only [decide_eq_false_iff_not, not_lt] at h h' ⊢; exact le_trans h' h) k l h
      simp only [decide_eq_false_iff_not, not_lt] at hr
      exact hr
    · rw [h]
  have hb : Function.Bijective s := ⟨sortedFrom_injective _, sortedFrom_surjective _⟩
  rw [hs]
  exact (congrFun (unique_sorted hu hv σ (Equiv.ofBijective s hb) eu rfl) i).symm

/-- The reference's sort, at an entry. -/
theorem sort_apply (x : FVec Ideal Arg .f32) (i : Fin 4096) (a : Fin 384) (b : Fin 3) :
    Host.sort Arg 0 (comparator_f32_d0 (F := Ideal)) x (ValueIdx.ix3 i a b) = sortCol (col x (3 * a.val + b.val)) i.val := by
  obtain ⟨σ, hσ⟩ := rearranged_sortCol (col x (3 * a.val + b.val))
  have e : 2 ^ 12 = 4096 := by norm_num
  refine sort_column x a b (fun k => sortCol (col x (3 * a.val + b.val)) k.val)
    (fun k l h => sortCol_monotone (col x (3 * a.val + b.val)) (show k.cast e.symm ≤ l.cast e.symm from h))
    ((finCongr e.symm).trans (σ.trans (finCongr e))) (funext fun k => ?_) i
  have h := congrFun hσ (k.cast e.symm)
  refine Eq.trans h ?_
  exact col_apply x ((σ (k.cast e.symm)).cast e) a b

end Cert.ReferenceIdeal

end
-- ==== Proof.Sums.lean ====
/-
  The last loop on one column: it adds up the absolute differences of the two sorted columns.
-/
module

public import Idealize.ShloMosaic.Lib.Pointwise.Reduce
public import Idealize.ShloMosaic.Lib.Pointwise.IndexBridge
public import Idealize.ShloMosaic.Lib.ValueLayout
public import proofs.«01_k».proof.Proof.Sorting

@[expose] public section

noncomputable section

namespace Cert.Net

open Idealize.ShloMosaic

/-- The absolute difference. -/
def gap (a b : EReal) : EReal := max (a - b) (-(a - b))

theorem gap_nonneg (a b : EReal) : 0 ≤ gap a b := by
  unfold gap
  rcases le_total 0 (a - b) with h | h
  · exact le_max_of_le_left h
  · exact le_max_of_le_right (EReal.neg_nonneg.mpr h)

/-- The distance of two columns: the absolute differences of the sorted columns, added up. -/
def dist (f g : Nat → EReal) : EReal := ∑ i ∈ Finset.range 4096, gap (sortCol f i) (sortCol g i)

theorem dist_nonneg (f g : Nat → EReal) : 0 ≤ dist f g := Finset.sum_nonneg fun _ _ => gap_nonneg _ _

/-- The column sums of two tiles. -/
theorem colSum_apply (x y : FVec Ideal (Rows 64) .f32) (c : Fin 128) (f g : Nat → EReal) (hx : Rep 64 x c f) (hy : Rep 64 y c g) :
    colSum x y (ValueIdx.ix1 c) = ∑ k ∈ Finset.range 64, gap (f k) (g k) := by
  unfold colSum
  refine (multiReduction_add_apply _ _ red64 _ _ _).trans ?_
  rw [Ideal.reduceAdd_def]
  refine (Ideal.reduceAdd_r2_a0 _ _ _).trans ?_
  rw [Finset.sum_range]
  refine Finset.sum_congr rfl fun k _ => ?_
  have h1 : x (ValueIdx.ix2 k c) = f k.val := hx k.val k.isLt
  have h2 : y (ValueIdx.ix2 k c) = g k.val := hy k.val k.isLt
  rw [ix2_eq_valueIdx, ← h1, ← h2]
  rfl

/-- The running sum with two pairs of tiles added. -/
theorem addTiles_apply (v : FVec Ideal ⟨2, ![1, 128]⟩ .f32) (x0 x1 y0 y1 : FVec Ideal (Rows 64) .f32) (c : Fin 128)
    (f0 f1 g0 g1 : Nat → EReal) (hx0 : Rep 64 x0 c f0) (hx1 : Rep 64 x1 c f1) (hy0 : Rep 64 y0 c g0) (hy1 : Rep 64 y1 c g1) :
    addTiles v x0 x1 y0 y1 (ValueIdx.ix2 0 c) = v (ValueIdx.ix2 0 c) + ∑ k ∈ Finset.range 64, gap (f0 k) (g0 k)
      + ∑ k ∈ Finset.range 64, gap (f1 k) (g1 k) := by
  have e : ∀ w : FVec Ideal ⟨1, ![128]⟩ .f32, shapeCast ⟨2, ![1, 128]⟩ w sc_128_1x128 (ValueIdx.ix2 0 c) = w (ValueIdx.ix1 c) := fun w =>
    ValueIdx.shapeCast_a_1a_apply w _ _ _
  rw [← colSum_apply x0 y0 c f0 g0 hx0 hy0, ← colSum_apply x1 y1 c f1 g1 hx1 hy1, ← e (colSum x0 y0), ← e (colSum x1 y1)]
  rfl

variable {M : Masks 64}

/-- The sum after `k` trips of the last loop. -/
theorem steps_sum (hM : Good 64 M) (L : Loop2) (hL : Sweeps L) (A B : FVec Ideal (Rows 4096) .f32) (c : Fin 128) (f g : Nat → EReal)
    (hA : Rep 4096 A c f) (hB : Rep 4096 B c g) (k : Nat) (hk : k ≤ L.l.trips) :
    steps L.l.trips (sumTrip (F := Ideal) M L A B) k (broadcast ⟨2, ![1, 128]⟩ (Scalar.ofBits .f32 0x00000000#32)) (ValueIdx.ix2 0 c)
      = ∑ i ∈ Finset.range (128 * k), gap (run small (fun _ => true) f i) (run small (fun _ => true) g i) := by
  induction k with
  | zero =>
    show Ideal.ofBits .f32 0x00000000#32 = _
    rw [Ideal.ofBits_zero_f32]; rfl
  | succ k ih =>
    have hk32 : k < 32 := by have := hL.trips; omega
    have a := reps_tail hM L.p L.p' ⟨k, hk⟩ k hk32 (hL.o _) (hL.o' _) true (fun _ => true) (fun _ _ => rfl) A c f (fun i hi _ => hA i hi)
    have b := reps_tail hM L.p L.p' ⟨k, hk⟩ k hk32 (hL.o _) (hL.o' _) true (fun _ => true) (fun _ _ => rfl) B c g (fun i hi _ => hB i hi)
    rw [steps_succ _ ⟨k, hk⟩]
    refine (addTiles_apply (steps L.l.trips (sumTrip (F := Ideal) M L A B) k (broadcast ⟨2, ![1, 128]⟩ (Scalar.ofBits .f32 0x00000000#32)))
      _ _ _ _ c _ _ _ _ a.1 a.2 b.1 b.2).trans ?_
    rw [ih (by omega), show 128 * (k + 1) = 128 * k + 64 + 64 by omega, Finset.sum_range_add, Finset.sum_range_add]
    refine congrArg₂ _ (congrArg₂ _ rfl (Finset.sum_congr rfl fun i hi => ?_)) (Finset.sum_congr rfl fun i hi => ?_)
    · have hi := Finset.mem_range.1 hi
      have e : tile 6 (2 * k) i = 128 * k + i := by show 2 ^ 6 * (2 * k) + i % 64 = _; omega
      show gap (run small _ f (tile 6 (2 * k) i)) (run small _ g (tile 6 (2 * k) i)) = _
      rw [e]
    · have hi := Finset.mem_range.1 hi
      have e : tile 6 (2 * k + 1) i = 128 * k + 64 + i := by show 2 ^ 6 * (2 * k + 1) + i % 64 = _; omega
      show gap (run small _ f (tile 6 (2 * k + 1) i)) (run small _ g (tile 6 (2 * k + 1) i)) = _
      rw [e]

/-- The block of the result, as the kernel body leaves it: in every column the distance of the two
    input columns. -/
theorem outOf_apply (hM : Good 64 M) {L1 L7 : Loop2} {L2 L3 L4 L5 L6 : Loop4} (h1 : Sweeps L1) (h2 : Merges L2 0) (h3 : Merges L3 1)
    (h4 : Merges L4 2) (h5 : Merges L5 3) (h6 : Merges L6 4) (h7 : Sweeps L7) (h64 : (Col 64).Iotas .tc 32 [0])
    (h32 : (Col 32).Iotas .tc 32 [0]) (X Y : FVec Ideal (Rows 4096) .f32) (c : Fin 128) (f g : Nat → EReal) (hX : Rep 4096 X c f)
    (hY : Rep 4096 Y c g) :
    outOf (F := Ideal) M L2 L3 L4 L5 L6 L7 (sorted h64 h32 L1 X) (sorted h64 h32 L1 Y) (ValueIdx.ix3 0 0 c) = dist f g := by
  have a := rep_middle hM h2 h3 h4 h5 h6 _ c _ (rep_sorted h64 h32 L1 h1 X c f hX)
  have b := rep_middle hM h2 h3 h4 h5 h6 _ c _ (rep_sorted h64 h32 L1 h1 Y c g hY)
  have s := steps_sum hM L7 h7 _ _ c _ _ a b L7.l.trips (Nat.le_refl _)
  have e1 : ∀ w : FVec Ideal ⟨1, ![128]⟩ .f32, shapeCast ⟨3, ![1, 1, 128]⟩ w sc_128_out (ValueIdx.ix3 0 0 c) = w (ValueIdx.ix1 c) := fun w =>
    shapeCast_apply w _ _ _ (by rw [Shape.rowMajor_val_three, Shape.rowMajor_val_one]; show c.val = (0 * 1 + 0) * 128 + c.val; omega)
  have e2 : ∀ w : FVec Ideal ⟨2, ![1, 128]⟩ .f32, shapeCast ⟨1, ![128]⟩ w sc_1x128_128 (ValueIdx.ix1 c) = w (ValueIdx.ix2 0 c) := fun w =>
    ValueIdx.shapeCast_1a_a_apply w _ _
  unfold outOf
  refine (e1 _).trans ((e2 _).trans (s.trans ?_))
  rw [h7.trips]
  rfl

end Cert.Net

end
-- ==== Proof.KernelIdealColumns.lean ====
/-
  The places the kernel's loops access, in closed form, and with them the block of the result that the
  kernel body leaves: in every column the distance of the two input columns.
-/
module

public import proofs.«01_k».proof.Proof.KernelIdealFrame
public import proofs.«01_k».proof.Proof.Sums

@[expose] public section

set_option maxRecDepth 20000

noncomputable section

namespace Cert.KernelIdeal

open Idealize.ShloMosaic Cert.Net

/-- The merges of the level of 128 rows access the pairs of tiles told apart by bit 0 of the pair's number. -/
theorem merges2 : Merges loop2 0 := ⟨by decide +kernel, by decide +kernel, by decide +kernel, by decide +kernel, by decide +kernel⟩
/-- Those of 256 rows: by bit 1. -/
theorem merges3 : Merges loop3 1 := ⟨by decide +kernel, by decide +kernel, by decide +kernel, by decide +kernel, by decide +kernel⟩
/-- Those of 512 rows: by bit 2. -/
theorem merges4 : Merges loop4 2 := ⟨by decide +kernel, by decide +kernel, by decide +kernel, by decide +kernel, by decide +kernel⟩
/-- Those of 1024 rows: by bit 3. -/
theorem merges5 : Merges loop5 3 := ⟨by decide +kernel, by decide +kernel, by decide +kernel, by decide +kernel, by decide +kernel⟩
/-- Those of 2048 rows: by bit 4. -/
theorem merges6 : Merges loop6 4 := ⟨by decide +kernel, by decide +kernel, by decide +kernel, by decide +kernel, by decide +kernel⟩
/-- The last loop accesses the pairs of tiles in order. -/
theorem sweeps7 : Sweeps loop7 := ⟨by decide +kernel, Gen.k0_off23_eq, Gen.k0_off24_eq⟩

/-- The block of the result holds, in every column, the distance of the two input columns. -/
theorem outAt_apply (X Y : FVec Ideal (Rows 4096) .f32) (c : Fin 128) (f g : Nat → EReal) (hX : Rep 4096 X c f) (hY : Rep 4096 Y c g) :
    outAt (F := Ideal) X Y (ValueIdx.ix3 0 0 c) = dist f g :=
  outOf_apply (good_bitMasks (by decide) _) sweeps1 merges2 merges3 merges4 merges5 merges6 sweeps7 _ _ X Y c f g hX hY

end Cert.KernelIdeal

end
-- ==== Proof.KernelIdealValue.lean ====
/-
  What the kernel's run leaves in the result: the distances of all columns, added up and divided.
-/
module

public import proofs.«01_k».proof.Proof.InputCols
public import proofs.«01_k».proof.Proof.KernelIdealColumns

@[expose] public section

noncomputable section

namespace Cert.KernelIdeal

open Idealize.ShloMosaic Idealize.ShloMosaic.TcCoe Idealize.ShloMosaic.StableHlo
open Idealize.SL Idealize.SL.Sem
open Cert.Net Facts₀ Facts

variable (m : (ℓ : Loc nD τ sig) → Buf (Elt Ideal) ℓ) (ρ : Dev nD → PrngReg)

/-- The first argument, its columns side by side. -/
theorem flat0 (c : Dev nD) : Gen.V m c main_v0 = shapeCast S4096x1152 (m ((c : Thread nD τ).loc main_arg0)) shapeCasts_S4096x384x3_S4096x1152 := by
  unfold Gen.V Gen.V0
  simp only [Gen.hostOps0, List.flatten_cons, List.flatten_nil, List.append_nil]
  after_results
  rfl

/-- The second argument, its columns side by side. -/
theorem flat1 (c : Dev nD) : Gen.V m c main_v1 = shapeCast S4096x1152 (m ((c : Thread nD τ).loc main_arg1)) shapeCasts_S4096x384x3_S4096x1152 := by
  unfold Gen.V Gen.V0
  simp only [Gen.hostOps0, List.flatten_cons, List.flatten_nil, List.append_nil]
  after_results
  rfl

/-- The blocks the windows are at: at point `t` the `t`-th. -/
theorem index_facts : ∀ t : Fin grid0.N, win0_0.index t 0 = 0 ∧ win0_0.index t 1 = t.val ∧ win0_1.index t 0 = 0 ∧ win0_1.index t 1 = t.val
    ∧ win0_2.index t 0 = t.val ∧ win0_2.index t 1 = 0 ∧ win0_2.index t 2 = 0 := by decide +kernel

/-- The first input block: 128 columns of the first argument. -/
theorem rep_iblk0 (c : Dev nD) (t : Fin cfg0.N) (k : Fin 128) :
    Rep 4096 (Gen.iblk m c 0 t) k (col (m ((c : Thread nD τ).loc main_arg0)) (128 * t.val + k.val)) := fun i hi => by
  have ht : t.val < 9 := t.isLt
  have h := index_facts t
  rw [← flat_apply _ shapeCasts_S4096x384x3_S4096x1152 ⟨i, hi⟩ ⟨128 * t.val + k.val, by omega⟩]
  refine Eq.trans ?_ (congrFun (flat0 m c) _)
  unfold Gen.iblk
  rw [View.read_apply]
  show Gen.V m c main_v0 _ = _
  congr 1
  funext a
  apply Fin.ext
  match a with
  | ⟨0, _⟩ => show win0_0.index t 0 * 4096 + 1 * i = i; rw [h.1]; omega
  | ⟨1, _⟩ => show win0_0.index t 1 * 128 + 1 * k.val = 128 * t.val + k.val; rw [h.2.1]; omega

/-- The second input block: the same columns of the second argument. -/
theorem rep_iblk1 (c : Dev nD) (t : Fin cfg0.N) (k : Fin 128) :
    Rep 4096 (Gen.iblk m c 1 t) k (col (m ((c : Thread nD τ).loc main_arg1)) (128 * t.val + k.val)) := fun i hi => by
  have ht : t.val < 9 := t.isLt
  have h := index_facts t
  rw [← flat_apply _ shapeCasts_S4096x384x3_S4096x1152 ⟨i, hi⟩ ⟨128 * t.val + k.val, by omega⟩]
  refine Eq.trans ?_ (congrFun (flat1 m c) _)
  unfold Gen.iblk
  rw [View.read_apply]
  show Gen.V m c main_v1 _ = _
  congr 1
  funext a
  apply Fin.ext
  match a with
  | ⟨0, _⟩ => show win0_1.index t 0 * 4096 + 1 * i = i; rw [h.2.2.1]; omega
  | ⟨1, _⟩ => show win0_1.index t 1 * 128 + 1 * k.val = 128 * t.val + k.val; rw [h.2.2.2.1]; omega

/-- The distance of the two arguments' columns `k`. -/
def colDist (c : Dev nD) (k : Nat) : EReal :=
  dist (col (m ((c : Thread nD τ).loc main_arg0)) k) (col (m ((c : Thread nD τ).loc main_arg1)) k)

/-- The array the grid leaves: at block `t`, column `k` the distance of the columns `128 t + k`. -/
def result (c : Dev nD) : Buf (Elt Ideal) ((c : Thread nD τ).loc main_v2) :=
  fun i : S9x1x128.Idx => colDist m c (128 * (i 0).val + (i 2).val)

/-- Every point writes its block of it. -/
theorem flushed_eq (c : Dev nD) (t : Fin cfg0.N) (_ : (cfg0.win 2).flush t = true) :
    (dats m 0 c).flushed 2 t = ((cfg0.win 2).blk t).view.read (Elt Ideal) (result m c) := by
  have h := index_facts t
  show (cfg0.win 2).cut (grid0.coords t) ((dats m 0 c).after 2 t) = _
  funext j
  rw [View.read_apply]
  have hj0 : (j 0).val < 1 := (j 0).isLt
  have hj1 : (j 1).val < 1 := (j 1).isLt
  have hj2 : (j 2).val < 128 := (j 2).isLt
  have e : outAt (F := Ideal) (Gen.iblk m c 0 t) (Gen.iblk m c 1 t) (ValueIdx.ix3 0 0 ⟨(j 2).val, hj2⟩)
      = colDist m c (128 * t.val + (j 2).val) :=
    outAt_apply _ _ ⟨(j 2).val, hj2⟩ _ _ (rep_iblk0 m c t ⟨(j 2).val, hj2⟩) (rep_iblk1 m c t ⟨(j 2).val, hj2⟩)
  have e0 : (cfg0.win 2).cut (grid0.coords t) ((dats m 0 c).after 2 t) j
      = outAt (F := Ideal) (Gen.iblk m c 0 t) (Gen.iblk m c 1 t) (ValueIdx.ix3 0 0 ⟨(j 2).val, hj2⟩) := by
    show outAt (F := Ideal) (Gen.iblk m c 0 t) (Gen.iblk m c 1 t) _ = _
    congr 1
    funext a
    apply Fin.ext
    match a with
    | ⟨0, _⟩ => show (j 0).val = 0; omega
    | ⟨1, _⟩ => show (j 1).val = 0; omega
    | ⟨2, _⟩ => rfl
  rw [e0, e]
  show _ = colDist m c (128 * (win0_2.index t 0 * 1 + 1 * (j 0).val) + (win0_2.index t 2 * 128 + 1 * (j 2).val))
  rw [h.2.2.2.2.1, h.2.2.2.2.2.2]
  congr 1
  omega

/-- Every entry is in some point's block. -/
theorem final (c : Dev nD) : (dats m 0 c).arrAt 2 cfg0.N = result m c :=
  (dats m 0 c).arrAt_eq_of_cover 2 (result m c) (flushed_eq m c) fun i =>
    ⟨(i 0), Gen.flush0_2 _, by
      have h := index_facts (i 0)
      show i ∈ ((View.whole main_v2).slice (win0_2.rect (i 0))).set
      rw [View.set_slice_whole, Rect.mem_set_unit]
      intro a
      have h1 : (i 1 : Nat) < 1 := (i 1).isLt
      have h2 : (i 2 : Nat) < 128 := (i 2).isLt
      match a with
      | ⟨0, _⟩ => show win0_2.index (i 0) 0 * 1 ≤ (i 0 : Nat) ∧ (i 0 : Nat) < win0_2.index (i 0) 0 * 1 + 1
                  rw [h.2.2.2.2.1]; omega
      | ⟨1, _⟩ => show win0_2.index (i 0) 1 * 1 ≤ (i 1 : Nat) ∧ (i 1 : Nat) < win0_2.index (i 0) 1 * 1 + 1
                  rw [h.2.2.2.2.2.1]; omega
      | ⟨2, _⟩ => show win0_2.index (i 0) 2 * 128 ≤ (i 2 : Nat) ∧ (i 2 : Nat) < win0_2.index (i 0) 2 * 128 + 128
                  rw [h.2.2.2.2.2.2]; omega⟩

/-- The sum of the array, divided by the number of entries of an argument. -/
def total (c : Dev nD) : FVec Ideal S_ .f32 :=
  Host.divf (Host.reduceAdd (F := Ideal) (φ := .f32) (s := S9x1x128) (result m c) (constant (F := Ideal) S_ .f32 0x00000000#32) reducesTo_S9x1x128_S_d0_1_2 h_S_)
    (constant (F := Ideal) S_ .f32 0x4A900000#32)

/-- The result the host lines leave. -/
theorem tail_eq (c : Dev nD) : Pipeline.afterTail₀ cfgs (dats m) 0 (Gen.V0 m) [Gen.hostOps1] c main_v4 = total m c := by
  have e : Pipeline.withArrays spec0 c (Gen.V0 m c) (fun w => (dats m 0 c).arrAt w cfg0.N) (Proc.devRef .tc main_v2) = result m c :=
    (Pipeline.withArrays_arr spec0 (by decide) c _ _ 2).trans (final m c)
  unfold Pipeline.afterTail₀
  simp only [Gen.hostOps1, List.flatten_cons, List.flatten_nil, List.append_nil]
  after_results
  exact congrArg (fun x : FVec Ideal S9x1x128 .f32 => Host.divf (Host.reduceAdd (F := Ideal) x (constant (F := Ideal) S_ .f32 0x00000000#32)
    reducesTo_S9x1x128_S_d0_1_2 h_S_) (constant (F := Ideal) S_ .f32 0x4A900000#32)) e

/-- The run: the result, and the arguments unchanged. -/
theorem run : θ_run defs (onTc (τ := τ) (main (F := Ideal))) ⟨m, fun _ => 0, ρ⟩ fun r => ∀ c : Dev nD,
    r.2.mem ((c : Thread nD τ).loc main_v4) = total m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c =>
    ⟨((h.1 c).2 main_v4 (Pipeline.mem_restRefs_of main_v4 (by decide) (by decide))).trans (tail_eq m c),
      ((h.1 c).2 main_arg0 (Pipeline.mem_restRefs_of main_arg0 (by decide) (by decide))).trans (Gen.W_main_arg0 m (dats m) c),
      ((h.1 c).2 main_arg1 (Pipeline.mem_restRefs_of main_arg1 (by decide) (by decide))).trans (Gen.W_main_arg1 m (dats m) c)⟩)
    (run_main m ρ)

end Cert.KernelIdeal

end
-- ==== Proof.Means.lean ====
/-
  Means of columns of the extended reals: the mean over all columns of the columns' means is the sum of
  everything divided once.
-/
module

public import Idealize.ShloMosaic.PureOps.Ideal

@[expose] public section

noncomputable section

namespace Cert.Net

open Idealize.ShloMosaic

/-- The pattern of 4096. -/
theorem ofBits_rows : Ideal.ofBits .f32 0x45800000#32 = ((4096 : ℝ) : EReal) := by
  simp [Ideal.ofBits, Ideal.ieee, -EReal.coe_mul]; norm_num

/-- The pattern of 1152. -/
theorem ofBits_cols : Ideal.ofBits .f32 0x44900000#32 = ((1152 : ℝ) : EReal) := by
  simp [Ideal.ofBits, Ideal.ieee, -EReal.coe_mul]; norm_num

/-- The pattern of 4718592, the product of the two. -/
theorem ofBits_entries : Ideal.ofBits .f32 0x4A900000#32 = ((4718592 : ℝ) : EReal) := by
  simp [Ideal.ofBits, Ideal.ieee, -EReal.coe_mul]; norm_num

/-- Division by a real that is not zero. -/
theorem div_real (x : EReal) (r : ℝ) (hr : r ≠ 0) : Ideal.div x r = x * ((r⁻¹ : ℝ) : EReal) := by
  have h : (r : EReal) ≠ 0 := fun h => hr (EReal.coe_eq_zero.1 h)
  unfold Ideal.div
  rw [if_neg h, EReal.coe_inv]

/-- A sum of terms that are not negative, each multiplied. -/
theorem sum_mul_nonneg {ι : Type} (s : Finset ι) (D : ι → EReal) (hD : ∀ k, 0 ≤ D k) (r : EReal) : ∑ k ∈ s, D k * r = (∑ k ∈ s, D k) * r := by
  classical
  induction s using Finset.induction_on with
  | empty => simp
  | insert a s ha ih =>
    rw [Finset.sum_insert ha, Finset.sum_insert ha, ih, EReal.right_distrib_of_nonneg (hD a) (Finset.sum_nonneg fun k _ => hD k)]

/-- A sum in blocks. -/
theorem sum_blocks (D : Nat → EReal) (n m : Nat) : ∑ a : Fin n, ∑ b : Fin m, D (m * a.val + b.val) = ∑ k ∈ Finset.range (m * n), D k := by
  rw [Fin.sum_univ_eq_sum_range (fun a => ∑ b : Fin m, D (m * a + b.val)) n]
  induction n with
  | zero => rfl
  | succ n ih =>
    rw [Finset.sum_range_succ, ih, Nat.mul_succ, Finset.sum_range_add, Fin.sum_univ_eq_sum_range (fun b => D (m * n + b)) m]

/-- The mean of the columns' means is the sum of everything, taken block by block and divided once. -/
theorem mean_of_means (D : Nat → EReal) (hD : ∀ k, 0 ≤ D k) :
    Ideal.div (0 + ∑ a : Fin 384, ∑ b : Fin 3, Ideal.div (0 + D (3 * a.val + b.val)) ((4096 : ℝ) : EReal)) ((1152 : ℝ) : EReal)
      = Ideal.div (0 + ∑ t : Fin 9, ∑ _u : Fin 1, ∑ k : Fin 128, D (128 * t.val + k.val)) ((4718592 : ℝ) : EReal) := by
  simp only [div_real _ _ (show (4096 : ℝ) ≠ 0 by norm_num), div_real _ _ (show (1152 : ℝ) ≠ 0 by norm_num),
    div_real _ _ (show (4718592 : ℝ) ≠ 0 by norm_num), zero_add, Fin.sum_univ_one]
  rw [sum_blocks (fun k => D k * (((4096 : ℝ)⁻¹ : ℝ) : EReal)) 384 3, sum_blocks D 9 128, sum_mul_nonneg _ D hD, mul_assoc, ← EReal.coe_mul]
  congr 2
  norm_num

end Cert.Net

end
-- ==== Proof.Algebraic.lean ====
/-
  The value claim: at the extended reals the kernel and the reference end with the same result.
-/
module

public import proofs.«01_k».proof.Defs
public import proofs.«01_k».proof.Proof.HostSort
public import proofs.«01_k».proof.Proof.KernelIdealValue
public import proofs.«01_k».proof.Proof.Means

@[expose] public section

noncomputable section

namespace Cert.ReferenceIdeal

open Idealize.ShloMosaic Cert.Net Facts₀ Facts

/-- The reference's result, from its two arguments. -/
def total (x y : FVec Ideal Arg .f32) : FVec Ideal S_ .f32 :=
  Host.divf (Host.reduceAdd (Host.divf (Host.reduceAdd (F := Ideal) (φ := .f32) (Host.absf (subf
      (Host.sort S4096x384x3 0 (comparator_f32_d0 (F := Ideal)) x) (Host.sort S4096x384x3 0 (comparator_f32_d0 (F := Ideal)) y)))
      (constant (F := Ideal) S_ .f32 0x00000000#32) reducesTo_S4096x384x3_S384x3_d0 h_S_)
    (broadcastInDim S384x3 ![] bcast_S_S384x3 (constant (F := Ideal) S_ .f32 0x45800000#32)))
    (constant (F := Ideal) S_ .f32 0x00000000#32) reducesTo_S384x3_S_d0_1 h_S_) (constant (F := Ideal) S_ .f32 0x44900000#32)

/-- The sum of one column of absolute differences: the distance of the two columns. -/
theorem column_sum (x y : FVec Ideal Arg .f32) (a : Fin 384) (b : Fin 3) :
    Host.reduceAdd (F := Ideal) (φ := .f32) (Host.absf (subf
      (Host.sort S4096x384x3 0 (comparator_f32_d0 (F := Ideal)) x) (Host.sort S4096x384x3 0 (comparator_f32_d0 (F := Ideal)) y)))
      (constant (F := Ideal) S_ .f32 0x00000000#32) reducesTo_S4096x384x3_S384x3_d0 h_S_ (ValueIdx.ix2 a b)
      = 0 + dist (col x (3 * a.val + b.val)) (col y (3 * a.val + b.val)) := by
  refine (Host.reduceAdd_apply _ _ _ _ _).trans ?_
  rw [Ideal.hostReduceAdd_def]
  refine (Ideal.hostReduceAdd_r3_a0 _ _ _ _).trans ?_
  refine congrArg₂ _ Ideal.ofBits_zero_f32 ?_
  unfold Cert.Net.dist
  rw [Finset.sum_range]
  refine Finset.sum_congr rfl fun k _ => ?_
  rw [← sort_apply x k a b, ← sort_apply y k a b, ix3_eq_valueIdx]
  rfl

/-- The reference's result is the mean of the means of the columns' absolute differences. -/
theorem total_apply (x y : FVec Ideal Arg .f32) (j : S_.Idx) :
    total x y j = Ideal.div (0 + ∑ a : Fin 384, ∑ b : Fin 3,
      Ideal.div (0 + dist (col x (3 * a.val + b.val)) (col y (3 * a.val + b.val))) ((4096 : ℝ) : EReal)) ((1152 : ℝ) : EReal) := by
  unfold total
  rw [← ofBits_rows, ← ofBits_cols]
  refine congrArg₂ Ideal.div ?_ rfl
  refine (Host.reduceAdd_apply _ _ _ _ _).trans ?_
  rw [Ideal.hostReduceAdd_def]
  refine (Ideal.hostReduceAdd_r2_a01 _ _ _ _).trans ?_
  refine congrArg₂ _ Ideal.ofBits_zero_f32 (Finset.sum_congr rfl fun a _ => Finset.sum_congr rfl fun b _ => ?_)
  rw [ix2_eq_valueIdx, ← column_sum x y a b]
  rfl

end Cert.ReferenceIdeal

namespace Cert.KernelIdeal

open Idealize.ShloMosaic Idealize.ShloMosaic.TcCoe Cert.Net Facts₀ Facts

variable (m : (ℓ : Loc nD τ sig) → Buf (Elt Ideal) ℓ)

/-- The kernel's result is the sum of all absolute differences, divided once. -/
theorem total_apply (c : Dev nD) (j : S_.Idx) :
    total m c j = Ideal.div (0 + ∑ t : Fin 9, ∑ _u : Fin 1, ∑ k : Fin 128, colDist m c (128 * t.val + k.val)) ((4718592 : ℝ) : EReal) := by
  unfold total
  rw [← ofBits_entries]
  refine congrArg₂ Ideal.div ?_ rfl
  refine (Host.reduceAdd_apply _ _ _ _ _).trans ?_
  rw [Ideal.hostReduceAdd_def]
  refine (Ideal.hostReduceAdd_r3_a012 _ _ _ _).trans ?_
  exact congrArg₂ _ Ideal.ofBits_zero_f32 rfl

/-- The two results are equal. -/
theorem total_eq (c : Dev nD) :
    total m c = Cert.ReferenceIdeal.total (m ((c : Thread nD τ).loc main_arg0)) (m ((c : Thread nD τ).loc main_arg1)) := funext fun j => by
  rw [total_apply, Cert.ReferenceIdeal.total_apply]
  exact (mean_of_means (colDist m c) fun _ => dist_nonneg _ _).symm

end Cert.KernelIdeal

namespace Cert.Proof

open Idealize.ShloMosaic Idealize.ShloMosaic.TcCoe Idealize.SL.Sem

/-- At the extended reals the kernel and the reference, run on the same arguments, end with the same result. -/
theorem value_claim : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.total m c, Cert.KernelIdeal.run m g,
    (θ_run _ _ _).mono (fun r h c => ⟨by
      show _ = Cert.KernelIdeal.total m c
      rw [Cert.KernelIdeal.total_eq, ← (hargs c).1, ← (hargs c).2]
      exact (h c).1, (h c).2⟩) (Cert.ReferenceIdeal.Value.run m' g')⟩

end Cert.Proof

end
-- ==== Proof.lean ====
/-
  The claims, put together.
-/
module

public import proofs.«01_k».proof.Proof.Frames
public import proofs.«01_k».proof.Proof.Algebraic

@[expose] public section

/-- The claims: the three frames, that the kernel read at the extended reals is the kernel's own text,
    and that there the kernel and the reference end with the same result. -/
theorem Cert.Proof.claim : Cert.Claim :=
  ⟨Cert.Kernel.Gen.facts, Cert.KernelIdeal.Gen.facts, Cert.ReferenceIdeal.Gen.facts,
    Cert.Proof.kernel_frame, Cert.Proof.kernelIdeal_frame, Cert.Proof.referenceIdeal_frame, trivial, Cert.Proof.value_claim⟩
